-- ==== Defs.lean ====
def Pre_Kernel [hPre_drawn_as_given : Cert.Pre_drawn_as_given.Facts] (m : (ℓ : Loc Cert.Kernel.nD Cert.Kernel.τ Cert.Kernel.sig) → Buf (Elt Bits) ℓ) : Prop :=
  ∀ c : Dev Cert.Kernel.nD,
    (Cert.Pre_drawn_as_given.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_drawn_as_given : Cert.Pre_drawn_as_given.Facts] (m : (ℓ : Loc Cert.KernelIdeal.nD Cert.KernelIdeal.τ Cert.KernelIdeal.sig) → Buf (Elt Ideal) ℓ) : Prop :=
  ∀ c : Dev Cert.KernelIdeal.nD,
    (Cert.Pre_drawn_as_given.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_Reference (m : (ℓ : Loc Cert.Reference.nD Cert.Reference.τ Cert.Reference.sig) → Buf (Elt Bits) ℓ) : Prop :=
  True

def Pre_Reference_drawn_as_given [hPre_drawn_as_given : Cert.Pre_drawn_as_given.Facts] (m : (ℓ : Loc Cert.Reference.nD Cert.Reference.τ Cert.Reference.sig) → Buf (Elt Bits) ℓ) : Prop :=
  ∀ c : Dev Cert.Reference.nD,
    (Cert.Pre_drawn_as_given.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn_as_given [hPre_drawn_as_given : Cert.Pre_drawn_as_given.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn_as_given.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_drawn_as_given : Cert.Pre_drawn_as_given.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_drawn_as_given : Cert.Pre_drawn_as_given.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Reference_pre_drawn_as_given [hReference : Cert.Reference.Facts] [hPre_drawn_as_given : Cert.Pre_drawn_as_given.Facts] : Prop :=
  ∀ (m : (ℓ : Loc Cert.Reference.nD Cert.Reference.τ Cert.Reference.sig) → Buf (Elt Bits) ℓ) (g : Dev Cert.Reference.nD → PrngReg), Pre_Reference_drawn_as_given m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_drawn_as_given [hReferenceIdeal : Cert.ReferenceIdeal.Facts] [hPre_drawn_as_given : Cert.Pre_drawn_as_given.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn_as_given m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def bitexact_Kernel_Reference [hKernel : Cert.Kernel.Facts] [hReference : Cert.Reference.Facts] [hPre_drawn_as_given : Cert.Pre_drawn_as_given.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)) →
    ∃ (v0 : (c : Dev Cert.Kernel.nD) → Buf (Elt Bits) ((c.tc : Thread Cert.Kernel.nD Cert.Kernel.τ).loc Cert.Kernel.main_v8)) (v1 : (c : Dev Cert.Kernel.nD) → Buf (Elt Bits) ((c.tc : Thread Cert.Kernel.nD Cert.Kernel.τ).loc Cert.Kernel.main_v5_2)) (v2 : (c : Dev Cert.Kernel.nD) → Buf (Elt Bits) ((c.tc : Thread Cert.Kernel.nD Cert.Kernel.τ).loc Cert.Kernel.main_c)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v8) = v0 c
          ∧ r.2.mem ((c.tc : Thread Cert.Kernel.nD Cert.Kernel.τ).loc Cert.Kernel.main_v5_2) = v1 c
          ∧ r.2.mem ((c.tc : Thread Cert.Kernel.nD Cert.Kernel.τ).loc Cert.Kernel.main_c) = v2 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v29) = v0 c
          ∧ r.2.mem ((c.tc : Thread Cert.Reference.nD Cert.Reference.τ).loc Cert.Reference.main_v31) = v1 c
          ∧ r.2.mem ((c.tc : Thread Cert.Reference.nD Cert.Reference.τ).loc Cert.Reference.main_c) = v2 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4))

def algebraic_KernelIdeal_ReferenceIdeal [hKernelIdeal : Cert.KernelIdeal.Facts] [hReferenceIdeal : Cert.ReferenceIdeal.Facts] [hPre_drawn_as_given : Cert.Pre_drawn_as_given.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v5_2)) (v2 : (c : Dev Cert.KernelIdeal.nD) → Buf (Elt Ideal) ((c.tc : Thread Cert.KernelIdeal.nD Cert.KernelIdeal.τ).loc Cert.KernelIdeal.main_c)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v5_2) = v1 c
          ∧ r.2.mem ((c.tc : Thread Cert.KernelIdeal.nD Cert.KernelIdeal.τ).loc Cert.KernelIdeal.main_c) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_c) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReference : Cert.Reference.Facts) (hReferenceIdeal : Cert.ReferenceIdeal.Facts) (hPre_drawn_as_given : Cert.Pre_drawn_as_given.Facts),
    quiescent_Kernel (hKernel := hKernel) (hPre_drawn_as_given := hPre_drawn_as_given)
    ∧ quiescent_KernelIdeal (hKernelIdeal := hKernelIdeal) (hPre_drawn_as_given := hPre_drawn_as_given)
    ∧ quiescent_Reference (hReference := hReference)
    ∧ quiescent_Reference_pre_drawn_as_given (hReference := hReference) (hPre_drawn_as_given := hPre_drawn_as_given)
    ∧ quiescent_ReferenceIdeal (hReferenceIdeal := hReferenceIdeal)
    ∧ quiescent_ReferenceIdeal_pre_drawn_as_given (hReferenceIdeal := hReferenceIdeal) (hPre_drawn_as_given := hPre_drawn_as_given)
    ∧ preserves_Kernel_KernelIdeal
    ∧ bitexact_Kernel_Reference (hKernel := hKernel) (hReference := hReference) (hPre_drawn_as_given := hPre_drawn_as_given)
    ∧ algebraic_KernelIdeal_ReferenceIdeal (hKernelIdeal := hKernelIdeal) (hReferenceIdeal := hReferenceIdeal) (hPre_drawn_as_given := hPre_drawn_as_given)
-- ==== Pre_drawn_as_given.lean ====
abbrev S10000x128 : Shape := ⟨2, ![10000, 128]⟩
abbrev S17 : Shape := ⟨1, ![17]⟩
abbrev S320000x2 : Shape := ⟨2, ![320000, 2]⟩
abbrev S16 : Shape := ⟨1, ![16]⟩
abbrev S320000x1 : Shape := ⟨2, ![320000, 1]⟩
abbrev S_ : Shape := ⟨0, ![]⟩

class Facts : Prop where
  bcast_S_S17 : S_.BroadcastsInDim S17 (![] : Fin 0 → Fin S17.rank)
  reducesTo_S17_S_d0 : S17.ReducesTo [0] S_
  h_S_ : 0 < S_.numel
  bcast_S_S16 : S_.BroadcastsInDim S16 (![] : Fin 0 → Fin S16.rank)
  reducesTo_S16_S_d0 : S16.ReducesTo [0] S_
  bcast_S_S320000x2 : S_.BroadcastsInDim S320000x2 (![] : Fin 0 → Fin S320000x2.rank)
  reducesTo_S320000x2_S_d0_1 : S320000x2.ReducesTo [0, 1] S_

variable [Facts]

def fn {F : FTy → Type} [FloatOps F] (main_arg0 : FVec F S10000x128 .f32) (main_arg1 : IVec S17 32) (main_arg2 : IVec S320000x2 32) (main_arg3 : IVec S16 32) (main_arg4 : FVec F S320000x1 .f32) : IVec S_ 1 :=
  let main_v0 : IVec S17 32 := iotaInDim S17 32 0
  let main_c : IVec S_ 32 := constantI S_ 32 625#32
  let main_v1 : IVec S17 32 := broadcastInDim S17 ![] bcast_S_S17 main_c
  let main_v2 : IVec S17 32 := muli main_v0 main_v1
  let main_v3 : IVec S17 1 := cmpi .eq main_arg1 main_v2
  let main_c_0 : IVec S_ 1 := constantI S_ 1 1#1
  let main_v4 : IVec S_ 1 := (fun x v => Host.reduce IntOp.andi x v reducesTo_S17_S_d0 h_S_) main_v3 main_c_0
  let main_c_1 : IVec S_ 32 := constantI S_ 32 20000#32
  let main_v5 : IVec S16 32 := broadcastInDim S16 ![] bcast_S_S16 main_c_1
  let main_v6 : IVec S16 1 := cmpi .eq main_arg3 main_v5
  let main_c_2 : IVec S_ 1 := constantI S_ 1 1#1
  let main_v7 : IVec S_ 1 := (fun x v => Host.reduce IntOp.andi x v reducesTo_S16_S_d0 h_S_) main_v6 main_c_2
  let main_v8 : IVec S_ 1 := andi main_v4 main_v7
  let main_c_3 : IVec S_ 32 := constantI S_ 32 0#32
  let main_v9 : IVec S320000x2 32 := broadcastInDim S320000x2 ![] bcast_S_S320000x2 main_c_3
  let main_v10 : IVec S320000x2 1 := cmpi .sge main_arg2 main_v9
  let main_c_4 : IVec S_ 32 := constantI S_ 32 625#32
  let main_v11 : IVec S320000x2 32 := broadcastInDim S320000x2 ![] bcast_S_S320000x2 main_c_4
  let main_v12 : IVec S320000x2 1 := cmpi .slt main_arg2 main_v11
  let main_v13 : IVec S320000x2 1 := andi main_v10 main_v12
  let main_c_5 : IVec S_ 1 := constantI S_ 1 1#1
  let main_v14 : IVec S_ 1 := (fun x v => Host.reduce IntOp.andi x v reducesTo_S320000x2_S_d0_1 h_S_) main_v13 main_c_5
  let main_v15 : IVec S_ 1 := andi main_v8 main_v14
  main_v15
-- ==== Kernel.lean ====
abbrev S10000x128 : Shape := ⟨2, ![10000, 128]⟩
abbrev S17 : Shape := ⟨1, ![17]⟩
abbrev S320000x2 : Shape := ⟨2, ![320000, 2]⟩
abbrev S16 : Shape := ⟨1, ![16]⟩
abbrev S320000x1 : Shape := ⟨2, ![320000, 1]⟩
abbrev S2 : Shape := ⟨1, ![2]⟩
abbrev S320000 : Shape := ⟨1, ![320000]⟩
abbrev S20000 : Shape := ⟨1, ![20000]⟩
abbrev S3200 : Shape := ⟨1, ![3200]⟩
abbrev S_ : Shape := ⟨0, ![]⟩

abbrev nBuf : Table → Nat
  | .hbm => 17
  | .local .scVector .vmem => 8
  | _ => 0

abbrev bufTy : (tb : Table) → Fin (nBuf tb) → BufTy
  | .hbm, ⟨0, _⟩ => ⟨S10000x128, .f32⟩
  | .hbm, ⟨1, _⟩ => ⟨S17, .i32⟩
  | .hbm, ⟨2, _⟩ => ⟨S320000x2, .i32⟩
  | .hbm, ⟨3, _⟩ => ⟨S16, .i32⟩
  | .hbm, ⟨4, _⟩ => ⟨S320000x1, .f32⟩
  | .hbm, ⟨5, _⟩ => ⟨S2, .i32⟩
  | .hbm, ⟨6, _⟩ => ⟨S320000x1, .i32⟩
  | .hbm, ⟨7, _⟩ => ⟨S320000, .i32⟩
  | .hbm, ⟨8, _⟩ => ⟨S320000x1, .i32⟩
  | .hbm, ⟨9, _⟩ => ⟨S320000, .i32⟩
  | .hbm, ⟨10, _⟩ => ⟨S320000, .f32⟩
  | .hbm, ⟨11, _⟩ => ⟨S320000, .i32⟩
  | .hbm, ⟨12, _⟩ => ⟨S320000, .i32⟩
  | .hbm, ⟨13, _⟩ => ⟨S320000, .f32⟩
  | .hbm, ⟨14, _⟩ => ⟨S320000x1, .i32⟩
  | .hbm, ⟨15, _⟩ => ⟨S320000x1, .i32⟩
  | .hbm, ⟨16, _⟩ => ⟨S320000x2, .i32⟩
  | .local .scVector .vmem, ⟨0, _⟩ => ⟨S20000, .i32⟩
  | .local .scVector .vmem, ⟨1, _⟩ => ⟨S20000, .i32⟩
  | .local .scVector .vmem, ⟨2, _⟩ => ⟨S20000, .f32⟩
  | .local .scVector .vmem, ⟨3, _⟩ => ⟨S20000, .i32⟩
  | .local .scVector .vmem, ⟨4, _⟩ => ⟨S20000, .i32⟩
  | .local .scVector .vmem, ⟨5, _⟩ => ⟨S20000, .f32⟩
  | .local .scVector .vmem, ⟨6, _⟩ => ⟨S3200, .i32⟩
  | .local .scVector .vmem, ⟨7, _⟩ => ⟨S3200, .i32⟩
  | _, _ => ⟨S10000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v1_scv : Ref sig .scVector := ⟨.hbm, 7, rfl⟩
abbrev main_v3_scv : Ref sig .scVector := ⟨.hbm, 9, rfl⟩
abbrev main_v4_scv : Ref sig .scVector := ⟨.hbm, 10, rfl⟩
abbrev main_v5_0_scv : Ref sig .scVector := ⟨.hbm, 11, rfl⟩
abbrev main_v5_1_scv : Ref sig .scVector := ⟨.hbm, 12, rfl⟩
abbrev main_v5_2_scv : Ref sig .scVector := ⟨.hbm, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let v3 : BitVec 32 := Scalar.extui v2
  let c0_i32 : BitVec 32 := 0#32
  let v4 : BitVec 1 := Scalar.cmpi .ne v3 c0_i32
  v4

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c20000_i32 : BitVec 32 := 20000#32
  let v5 : BitVec 32 := Scalar.muli v1 c20000_i32
  ![v5.toNat]
@[reducible] def k0_t1_loop : Scf.Loop 32 :=
  let c0_i32_1 : BitVec 32 := 0#32
  let c200_i32 : BitVec 32 := 200#32
  let v6 : BitVec 32 := Scalar.addi c0_i32_1 c200_i32
  let c1_i32 : BitVec 32 := 1#32
  ⟨c0_i32_1, v6, c1_i32⟩
def k0_off2 (k0_t1 : Fin k0_t1_loop.trips) : Fin 1 → Nat :=
  let c0_i32_1 : BitVec 32 := 0#32
  let c1_i32 : BitVec 32 := 1#32
  let arg16 : BitVec 32 := Scf.iv c0_i32_1 c1_i32 k0_t1
  let c16_i32_33 : BitVec 32 := 16#32
  let v23 : BitVec 32 := Scalar.muli arg16 c16_i32_33
  let v24 : Index := Scalar.indexCast v23
  ![v24.toNat]
@[reducible] def k0_t2_loop : Scf.Loop 32 :=
  let c0_i32_5 : BitVec 32 := 0#32
  let c250_i32 : BitVec 32 := 250#32
  let v9 : BitVec 32 := Scalar.addi c0_i32_5 c250_i32
  let c1_i32_6 : BitVec 32 := 1#32
  ⟨c0_i32_5, v9, c1_i32_6⟩
def k0_off3 (k0_t2 : Fin k0_t2_loop.trips) : Fin 1 → Nat :=
  let c0_i32_33 : BitVec 32 := 0#32
  let c0_i32_5 : BitVec 32 := 0#32
  let c1_i32_6 : BitVec 32 := 1#32
  let arg16 : BitVec 32 := Scf.iv c0_i32_5 c1_i32_6 k0_t2
  let c16_i32_32 : BitVec 32 := 16#32
  let v22 : BitVec 32 := Scalar.muli arg16 c16_i32_32
  let v23 : BitVec 32 := Scalar.addi c0_i32_33 v22
  let v24 : Index := Scalar.indexCast v23
  ![v24.toNat]

def k0_chk1 (i : grid0.Coords) (v27 : IVec S16 32) : Prop :=
  (∀ (k0_h1 : k0_cond1 i = 1#1), ∀ a x, ((![v27] : Fin 1 → IVec S16 32) a x).toNat < S3200.size a)
theorem k0_idx1_inb : ∀ (i : grid0.Coords) (v27 : IVec S16 32) (k0_hw1 : k0_chk1 i v27), ∀ (k0_h1 : k0_cond1 i = 1#1), ∀ a x, ((![v27] : Fin 1 → IVec S16 32) a x).toNat < S3200.size a := fun i v27 k0_hw1 k0_h1 => k0_hw1 k0_h1
def k0_off4 (k0_t2 : Fin k0_t2_loop.trips) : Fin 1 → Nat :=
  let c4000_i32 : BitVec 32 := 4000#32
  let c0_i32_5 : BitVec 32 := 0#32
  let c1_i32_6 : BitVec 32 := 1#32
  let arg16 : BitVec 32 := Scf.iv c0_i32_5 c1_i32_6 k0_t2
  let c16_i32_35 : BitVec 32 := 16#32
  let v28 : BitVec 32 := Scalar.muli arg16 c16_i32_35
  let v29 : BitVec 32 := Scalar.addi c4000_i32 v28
  let v30 : Index := Scalar.indexCast v29
  ![v30.toNat]

def k0_chk2 (i : grid0.Coords) (v33 : IVec S16 32) : Prop :=
  (∀ (k0_h1 : k0_cond1 i = 1#1), ∀ a x, ((![v33] : Fin 1 → IVec S16 32) a x).toNat < S3200.size a)
theorem k0_idx2_inb : ∀ (i : grid0.Coords) (v33 : IVec S16 32) (k0_hw2 : k0_chk2 i v33), ∀ (k0_h1 : k0_cond1 i = 1#1), ∀ a x, ((![v33] : Fin 1 → IVec S16 32) a x).toNat < S3200.size a := fun i v33 k0_hw2 k0_h1 => k0_hw2 k0_h1
def k0_off5 (k0_t2 : Fin k0_t2_loop.trips) : Fin 1 → Nat :=
  let c8000_i32 : BitVec 32 := 8000#32
  let c0_i32_5 : BitVec 32 := 0#32
  let c1_i32_6 : BitVec 32 := 1#32
  let arg16 : BitVec 32 := Scf.iv c0_i32_5 c1_i32_6 k0_t2
  let c16_i32_36 : BitVec 32 := 16#32
  let v34 : BitVec 32 := Scalar.muli arg16 c16_i32_36
  let v35 : BitVec 32 := Scalar.addi c8000_i32 v34
  let v36 : Index := Scalar.indexCast v35
  ![v36.toNat]

def k0_chk3 (i : grid0.Coords) (v39 : IVec S16 32) : Prop :=
  (∀ (k0_h1 : k0_cond1 i = 1#1), ∀ a x, ((![v39] : Fin 1 → IVec S16 32) a x).toNat < S3200.size a)
theorem k0_idx3_inb : ∀ (i : grid0.Coords) (v39 : IVec S16 32) (k0_hw3 : k0_chk3 i v39), ∀ (k0_h1 : k0_cond1 i = 1#1), ∀ a x, ((![v39] : Fin 1 → IVec S16 32) a x).toNat < S3200.size a := fun i v39 k0_hw3 k0_h1 => k0_hw3 k0_h1
def k0_off6 (k0_t2 : Fin k0_t2_loop.trips) : Fin 1 → Nat :=
  let c12000_i32 : BitVec 32 := 12000#32
  let c0_i32_5 : BitVec 32 := 0#32
  let c1_i32_6 : BitVec 32 := 1#32
  let arg16 : BitVec 32 := Scf.iv c0_i32_5 c1_i32_6 k0_t2
  let c16_i32_37 : BitVec 32 := 16#32
  let v40 : BitVec 32 := Scalar.muli arg16 c16_i32_37
  let v41 : BitVec 32 := Scalar.addi c12000_i32 v40
  let v42 : Index := Scalar.indexCast v41
  ![v42.toNat]

def k0_chk4 (i : grid0.Coords) (v45 : IVec S16 32) : Prop :=
  (∀ (k0_h1 : k0_cond1 i = 1#1), ∀ a x, ((![v45] : Fin 1 → IVec S16 32) a x).toNat < S3200.size a)
theorem k0_idx4_inb : ∀ (i : grid0.Coords) (v45 : IVec S16 32) (k0_hw4 : k0_chk4 i v45), ∀ (k0_h1 : k0_cond1 i = 1#1), ∀ a x, ((![v45] : Fin 1 → IVec S16 32) a x).toNat < S3200.size a := fun i v45 k0_hw4 k0_h1 => k0_hw4 k0_h1
def k0_off7 (k0_t2 : Fin k0_t2_loop.trips) : Fin 1 → Nat :=
  let c16000_i32 : BitVec 32 := 16000#32
  let c0_i32_5 : BitVec 32 := 0#32
  let c1_i32_6 : BitVec 32 := 1#32
  let arg16 : BitVec 32 := Scf.iv c0_i32_5 c1_i32_6 k0_t2
  let c16_i32_38 : BitVec 32 := 16#32
  let v46 : BitVec 32 := Scalar.muli arg16 c16_i32_38
  let v47 : BitVec 32 := Scalar.addi c16000_i32 v46
  let v48 : Index := Scalar.indexCast v47
  ![v48.toNat]

def k0_chk5 (i : grid0.Coords) (v51 : IVec S16 32) : Prop :=
  (∀ (k0_h1 : k0_cond1 i = 1#1), ∀ a x, ((![v51] : Fin 1 → IVec S16 32) a x).toNat < S3200.size a)
theorem k0_idx5_inb : ∀ (i : grid0.Coords) (v51 : IVec S16 32) (k0_hw5 : k0_chk5 i v51), ∀ (k0_h1 : k0_cond1 i = 1#1), ∀ a x, ((![v51] : Fin 1 → IVec S16 32) a x).toNat < S3200.size a := fun i v51 k0_hw5 k0_h1 => k0_hw5 k0_h1
@[reducible] def k0_t3_loop : Scf.Loop 32 :=
  let c0_i32_9 : BitVec 32 := 0#32
  let c40_i32 : BitVec 32 := 40#32
  let v11 : BitVec 32 := Scalar.addi c0_i32_9 c40_i32
  let c1_i32_10 : BitVec 32 := 1#32
  ⟨c0_i32_9, v11, c1_i32_10⟩
def k0_off8 (k0_t3 : Fin k0_t3_loop.trips) (c0_i32_33 : BitVec 32) : Fin 1 → Nat :=
  let c0_i32_9 : BitVec 32 := 0#32
  let c1_i32_10 : BitVec 32 := 1#32
  let arg16 : BitVec 32 := Scf.iv c0_i32_9 c1_i32_10 k0_t3
  let c16_i32_32 : BitVec 32 := 16#32
  let v22 : BitVec 32 := Scalar.muli arg16 c16_i32_32
  let v23 : BitVec 32 := Scalar.addi c0_i32_33 v22
  let v32 : Index := Scalar.indexCast v23
  ![v32.toNat]
@[reducible] def k0_t4_loop : Scf.Loop 32 :=
  let c0_i32_13 : BitVec 32 := 0#32
  let c250_i32_14 : BitVec 32 := 250#32
  let v13 : BitVec 32 := Scalar.addi c0_i32_13 c250_i32_14
  let c1_i32_15 : BitVec 32 := 1#32
  ⟨c0_i32_13, v13, c1_i32_15⟩
def k0_off9 (k0_t4 : Fin k0_t4_loop.trips) : Fin 1 → Nat :=
  let c0_i32_33 : BitVec 32 := 0#32
  let c0_i32_13 : BitVec 32 := 0#32
  let c1_i32_15 : BitVec 32 := 1#32
  let arg16 : BitVec 32 := Scf.iv c0_i32_13 c1_i32_15 k0_t4
  let c16_i32_32 : BitVec 32 := 16#32
  let v22 : BitVec 32 := Scalar.muli arg16 c16_i32_32
  let v23 : BitVec 32 := Scalar.addi c0_i32_33 v22
  let v24 : Index := Scalar.indexCast v23
  ![v24.toNat]

def k0_chk7 (i : grid0.Coords) (v36 : IVec S16 32) : Prop :=
  (∀ (k0_h1 : k0_cond1 i = 1#1), ∀ a x, ((![v36] : Fin 1 → IVec S16 32) a x).toNat < S20000.size a) ∧
  (∀ (k0_h1 : k0_cond1 i = 1#1), ∀ a x, ((![v36] : Fin 1 → IVec S16 32) a x).toNat < S20000.size a) ∧
  (∀ (k0_h1 : k0_cond1 i = 1#1), ∀ a x, ((![v36] : Fin 1 → IVec S16 32) a x).toNat < S20000.size a)
theorem k0_idx7_inb : ∀ (i : grid0.Coords) (v36 : IVec S16 32) (k0_hw7 : k0_chk7 i v36), ∀ (k0_h1 : k0_cond1 i = 1#1), ∀ a x, ((![v36] : Fin 1 → IVec S16 32) a x).toNat < S20000.size a := fun i v36 k0_hw7 k0_h1 => k0_hw7.1 k0_h1
theorem k0_idx8_inb : ∀ (i : grid0.Coords) (v36 : IVec S16 32) (k0_hw7 : k0_chk7 i v36), ∀ (k0_h1 : k0_cond1 i = 1#1), ∀ a x, ((![v36] : Fin 1 → IVec S16 32) a x).toNat < S20000.size a := fun i v36 k0_hw7 k0_h1 => k0_hw7.2.1 k0_h1
theorem k0_idx9_inb : ∀ (i : grid0.Coords) (v36 : IVec S16 32) (k0_hw7 : k0_chk7 i v36), ∀ (k0_h1 : k0_cond1 i = 1#1), ∀ a x, ((![v36] : Fin 1 → IVec S16 32) a x).toNat < S20000.size a := fun i v36 k0_hw7 k0_h1 => k0_hw7.2.2 k0_h1

def k0_chk6 (i : grid0.Coords) (v32 : IVec S16 32) : Prop :=
  (∀ (k0_h1 : k0_cond1 i = 1#1), ∀ a x, ((![v32] : Fin 1 → IVec S16 32) a x).toNat < S3200.size a) ∧
  (∀ (k0_h1 : k0_cond1 i = 1#1), ∀ a x, ((![v32] : Fin 1 → IVec S16 32) a x).toNat < S3200.size a)
theorem k0_idx6_inb : ∀ (i : grid0.Coords) (v32 : IVec S16 32) (k0_hw6 : k0_chk6 i v32), ∀ (k0_h1 : k0_cond1 i = 1#1), ∀ a x, ((![v32] : Fin 1 → IVec S16 32) a x).toNat < S3200.size a := fun i v32 k0_hw6 k0_h1 => k0_hw6.1 k0_h1
theorem k0_idx10_inb : ∀ (i : grid0.Coords) (v32 : IVec S16 32) (k0_hw6 : k0_chk6 i v32), ∀ (k0_h1 : k0_cond1 i = 1#1), ∀ a x, ((![v32] : Fin 1 → IVec S16 32) a x).toNat < S3200.size a := fun i v32 k0_hw6 k0_h1 => k0_hw6.2 k0_h1
def k0_off10 (k0_t4 : Fin k0_t4_loop.trips) : Fin 1 → Nat :=
  let c4000_i32 : BitVec 32 := 4000#32
  let c0_i32_13 : BitVec 32 := 0#32
  let c1_i32_15 : BitVec 32 := 1#32
  let arg16 : BitVec 32 := Scf.iv c0_i32_13 c1_i32_15 k0_t4
  let c16_i32_36 : BitVec 32 := 16#32
  let v38 : BitVec 32 := Scalar.muli arg16 c16_i32_36
  let v39 : BitVec 32 := Scalar.addi c4000_i32 v38
  let v40 : Index := Scalar.indexCast v39
  ![v40.toNat]

def k0_chk9 (i : grid0.Coords) (v52 : IVec S16 32) : Prop :=
  (∀ (k0_h1 : k0_cond1 i = 1#1), ∀ a x, ((![v52] : Fin 1 → IVec S16 32) a x).toNat < S20000.size a) ∧
  (∀ (k0_h1 : k0_cond1 i = 1#1), ∀ a x, ((![v52] : Fin 1 → IVec S16 32) a x).toNat < S20000.size a) ∧
  (∀ (k0_h1 : k0_cond1 i = 1#1), ∀ a x, ((![v52] : Fin 1 → IVec S16 32) a x).toNat < S20000.size a)
theorem k0_idx12_inb : ∀ (i : grid0.Coords) (v52 : IVec S16 32) (k0_hw9 : k0_chk9 i v52), ∀ (k0_h1 : k0_cond1 i = 1#1), ∀ a x, ((![v52] : Fin 1 → IVec S16 32) a x).toNat < S20000.size a := fun i v52 k0_hw9 k0_h1 => k0_hw9.1 k0_h1
theorem k0_idx13_inb : ∀ (i : grid0.Coords) (v52 : IVec S16 32) (k0_hw9 : k0_chk9 i v52), ∀ (k0_h1 : k0_cond1 i = 1#1), ∀ a x, ((![v52] : Fin 1 → IVec S16 32) a x).toNat < S20000.size a := fun i v52 k0_hw9 k0_h1 => k0_hw9.2.1 k0_h1
theorem k0_idx14_inb : ∀ (i : grid0.Coords) (v52 : IVec S16 32) (k0_hw9 : k0_chk9 i v52), ∀ (k0_h1 : k0_cond1 i = 1#1), ∀ a x, ((![v52] : Fin 1 → IVec S16 32) a x).toNat < S20000.size a := fun i v52 k0_hw9 k0_h1 => k0_hw9.2.2 k0_h1

def k0_chk8 (i : grid0.Coords) (v48 : IVec S16 32) : Prop :=
  (∀ (k0_h1 : k0_cond1 i = 1#1), ∀ a x, ((![v48] : Fin 1 → IVec S16 32) a x).toNat < S3200.size a) ∧
  (∀ (k0_h1 : k0_cond1 i = 1#1), ∀ a x, ((![v48] : Fin 1 → IVec S16 32) a x).toNat < S3200.size a)
theorem k0_idx11_inb : ∀ (i : grid0.Coords) (v48 : IVec S16 32) (k0_hw8 : k0_chk8 i v48), ∀ (k0_h1 : k0_cond1 i = 1#1), ∀ a x, ((![v48] : Fin 1 → IVec S16 32) a x).toNat < S3200.size a := fun i v48 k0_hw8 k0_h1 => k0_hw8.1 k0_h1
theorem k0_idx15_inb : ∀ (i : grid0.Coords) (v48 : IVec S16 32) (k0_hw8 : k0_chk8 i v48), ∀ (k0_h1 : k0_cond1 i = 1#1), ∀ a x, ((![v48] : Fin 1 → IVec S16 32) a x).toNat < S3200.size a := fun i v48 k0_hw8 k0_h1 => k0_hw8.2 k0_h1
def k0_off11 (k0_t4 : Fin k0_t4_loop.trips) : Fin 1 → Nat :=
  let c8000_i32 : BitVec 32 := 8000#32
  let c0_i32_13 : BitVec 32 := 0#32
  let c1_i32_15 : BitVec 32 := 1#32
  let arg16 : BitVec 32 := Scf.iv c0_i32_13 c1_i32_15 k0_t4
  let c16_i32_41 : BitVec 32 := 16#32
  let v54 : BitVec 32 := Scalar.muli arg16 c16_i32_41
  let v55 : BitVec 32 := Scalar.addi c8000_i32 v54
  let v56 : Index := Scalar.indexCast v55
  ![v56.toNat]

def k0_chk11 (i : grid0.Coords) (v68 : IVec S16 32) : Prop :=
  (∀ (k0_h1 : k0_cond1 i = 1#1), ∀ a x, ((![v68] : Fin 1 → IVec S16 32) a x).toNat < S20000.size a) ∧
  (∀ (k0_h1 : k0_cond1 i = 1#1), ∀ a x, ((![v68] : Fin 1 → IVec S16 32) a x).toNat < S20000.size a) ∧
  (∀ (k0_h1 : k0_cond1 i = 1#1), ∀ a x, ((![v68] : Fin 1 → IVec S16 32) a x).toNat < S20000.size a)
theorem k0_idx17_inb : ∀ (i : grid0.Coords) (v68 : IVec S16 32) (k0_hw11 : k0_chk11 i v68), ∀ (k0_h1 : k0_cond1 i = 1#1), ∀ a x, ((![v68] : Fin 1 → IVec S16 32) a x).toNat < S20000.size a := fun i v68 k0_hw11 k0_h1 => k0_hw11.1 k0_h1
theorem k0_idx18_inb : ∀ (i : grid0.Coords) (v68 : IVec S16 32) (k0_hw11 : k0_chk11 i v68), ∀ (k0_h1 : k0_cond1 i = 1#1), ∀ a x, ((![v68] : Fin 1 → IVec S16 32) a x).toNat < S20000.size a := fun i v68 k0_hw11 k0_h1 => k0_hw11.2.1 k0_h1
theorem k0_idx19_inb : ∀ (i : grid0.Coords) (v68 : IVec S16 32) (k0_hw11 : k0_chk11 i v68), ∀ (k0_h1 : k0_cond1 i = 1#1), ∀ a x, ((![v68] : Fin 1 → IVec S16 32) a x).toNat < S20000.size a := fun i v68 k0_hw11 k0_h1 => k0_hw11.2.2 k0_h1

def k0_chk10 (i : grid0.Coords) (v64 : IVec S16 32) : Prop :=
  (∀ (k0_h1 : k0_cond1 i = 1#1), ∀ a x, ((![v64] : Fin 1 → IVec S16 32) a x).toNat < S3200.size a) ∧
  (∀ (k0_h1 : k0_cond1 i = 1#1), ∀ a x, ((![v64] : Fin 1 → IVec S16 32) a x).toNat < S3200.size a)
theorem k0_idx16_inb : ∀ (i : grid0.Coords) (v64 : IVec S16 32) (k0_hw10 : k0_chk10 i v64), ∀ (k0_h1 : k0_cond1 i = 1#1), ∀ a x, ((![v64] : Fin 1 → IVec S16 32) a x).toNat < S3200.size a := fun i v64 k0_hw10 k0_h1 => k0_hw10.1 k0_h1
theorem k0_idx20_inb : ∀ (i : grid0.Coords) (v64 : IVec S16 32) (k0_hw10 : k0_chk10 i v64), ∀ (k0_h1 : k0_cond1 i = 1#1), ∀ a x, ((![v64] : Fin 1 → IVec S16 32) a x).toNat < S3200.size a := fun i v64 k0_hw10 k0_h1 => k0_hw10.2 k0_h1
def k0_off12 (k0_t4 : Fin k0_t4_loop.trips) : Fin 1 → Nat :=
  let c12000_i32 : BitVec 32 := 12000#32
  let c0_i32_13 : BitVec 32 := 0#32
  let c1_i32_15 : BitVec 32 := 1#32
  let arg16 : BitVec 32 := Scf.iv c0_i32_13 c1_i32_15 k0_t4
  let c16_i32_46 : BitVec 32 := 16#32
  let v70 : BitVec 32 := Scalar.muli arg16 c16_i32_46
  let v71 : BitVec 32 := Scalar.addi c12000_i32 v70
  let v72 : Index := Scalar.indexCast v71
  ![v72.toNat]

def k0_chk13 (i : grid0.Coords) (v84 : IVec S16 32) : Prop :=
  (∀ (k0_h1 : k0_cond1 i = 1#1), ∀ a x, ((![v84] : Fin 1 → IVec S16 32) a x).toNat < S20000.size a) ∧
  (∀ (k0_h1 : k0_cond1 i = 1#1), ∀ a x, ((![v84] : Fin 1 → IVec S16 32) a x).toNat < S20000.size a) ∧
  (∀ (k0_h1 : k0_cond1 i = 1#1), ∀ a x, ((![v84] : Fin 1 → IVec S16 32) a x).toNat < S20000.size a)
theorem k0_idx22_inb : ∀ (i : grid0.Coords) (v84 : IVec S16 32) (k0_hw13 : k0_chk13 i v84), ∀ (k0_h1 : k0_cond1 i = 1#1), ∀ a x, ((![v84] : Fin 1 → IVec S16 32) a x).toNat < S20000.size a := fun i v84 k0_hw13 k0_h1 => k0_hw13.1 k0_h1
theorem k0_idx23_inb : ∀ (i : grid0.Coords) (v84 : IVec S16 32) (k0_hw13 : k0_chk13 i v84), ∀ (k0_h1 : k0_cond1 i = 1#1), ∀ a x, ((![v84] : Fin 1 → IVec S16 32) a x).toNat < S20000.size a := fun i v84 k0_hw13 k0_h1 => k0_hw13.2.1 k0_h1
theorem k0_idx24_inb : ∀ (i : grid0.Coords) (v84 : IVec S16 32) (k0_hw13 : k0_chk13 i v84), ∀ (k0_h1 : k0_cond1 i = 1#1), ∀ a x, ((![v84] : Fin 1 → IVec S16 32) a x).toNat < S20000.size a := fun i v84 k0_hw13 k0_h1 => k0_hw13.2.2 k0_h1

def k0_chk12 (i : grid0.Coords) (v80 : IVec S16 32) : Prop :=
  (∀ (k0_h1 : k0_cond1 i = 1#1), ∀ a x, ((![v80] : Fin 1 → IVec S16 32) a x).toNat < S3200.size a) ∧
  (∀ (k0_h1 : k0_cond1 i = 1#1), ∀ a x, ((![v80] : Fin 1 → IVec S16 32) a x).toNat < S3200.size a)
theorem k0_idx21_inb : ∀ (i : grid0.Coords) (v80 : IVec S16 32) (k0_hw12 : k0_chk12 i v80), ∀ (k0_h1 : k0_cond1 i = 1#1), ∀ a x, ((![v80] : Fin 1 → IVec S16 32) a x).toNat < S3200.size a := fun i v80 k0_hw12 k0_h1 => k0_hw12.1 k0_h1
theorem k0_idx25_inb : ∀ (i : grid0.Coords) (v80 : IVec S16 32) (k0_hw12 : k0_chk12 i v80), ∀ (k0_h1 : k0_cond1 i = 1#1), ∀ a x, ((![v80] : Fin 1 → IVec S16 32) a x).toNat < S3200.size a := fun i v80 k0_hw12 k0_h1 => k0_hw12.2 k0_h1
def k0_off13 (k0_t4 : Fin k0_t4_loop.trips) : Fin 1 → Nat :=
  let c16000_i32 : BitVec 32 := 16000#32
  let c0_i32_13 : BitVec 32 := 0#32
  let c1_i32_15 : BitVec 32 := 1#32
  let arg16 : BitVec 32 := Scf.iv c0_i32_13 c1_i32_15 k0_t4
  let c16_i32_51 : BitVec 32 := 16#32
  let v86 : BitVec 32 := Scalar.muli arg16 c16_i32_51
  let v87 : BitVec 32 := Scalar.addi c16000_i32 v86
  let v88 : Index := Scalar.indexCast v87
  ![v88.toNat]

def k0_chk15 (i : grid0.Coords) (v100 : IVec S16 32) : Prop :=
  (∀ (k0_h1 : k0_cond1 i = 1#1), ∀ a x, ((![v100] : Fin 1 → IVec S16 32) a x).toNat < S20000.size a) ∧
  (∀ (k0_h1 : k0_cond1 i = 1#1), ∀ a x, ((![v100] : Fin 1 → IVec S16 32) a x).toNat < S20000.size a) ∧
  (∀ (k0_h1 : k0_cond1 i = 1#1), ∀ a x, ((![v100] : Fin 1 → IVec S16 32) a x).toNat < S20000.size a)
theorem k0_idx27_inb : ∀ (i : grid0.Coords) (v100 : IVec S16 32) (k0_hw15 : k0_chk15 i v100), ∀ (k0_h1 : k0_cond1 i = 1#1), ∀ a x, ((![v100] : Fin 1 → IVec S16 32) a x).toNat < S20000.size a := fun i v100 k0_hw15 k0_h1 => k0_hw15.1 k0_h1
theorem k0_idx28_inb : ∀ (i : grid0.Coords) (v100 : IVec S16 32) (k0_hw15 : k0_chk15 i v100), ∀ (k0_h1 : k0_cond1 i = 1#1), ∀ a x, ((![v100] : Fin 1 → IVec S16 32) a x).toNat < S20000.size a := fun i v100 k0_hw15 k0_h1 => k0_hw15.2.1 k0_h1
theorem k0_idx29_inb : ∀ (i : grid0.Coords) (v100 : IVec S16 32) (k0_hw15 : k0_chk15 i v100), ∀ (k0_h1 : k0_cond1 i = 1#1), ∀ a x, ((![v100] : Fin 1 → IVec S16 32) a x).toNat < S20000.size a := fun i v100 k0_hw15 k0_h1 => k0_hw15.2.2 k0_h1

def k0_chk14 (i : grid0.Coords) (v96 : IVec S16 32) : Prop :=
  (∀ (k0_h1 : k0_cond1 i = 1#1), ∀ a x, ((![v96] : Fin 1 → IVec S16 32) a x).toNat < S3200.size a) ∧
  (∀ (k0_h1 : k0_cond1 i = 1#1), ∀ a x, ((![v96] : Fin 1 → IVec S16 32) a x).toNat < S3200.size a)
theorem k0_idx26_inb : ∀ (i : grid0.Coords) (v96 : IVec S16 32) (k0_hw14 : k0_chk14 i v96), ∀ (k0_h1 : k0_cond1 i = 1#1), ∀ a x, ((![v96] : Fin 1 → IVec S16 32) a x).toNat < S3200.size a := fun i v96 k0_hw14 k0_h1 => k0_hw14.1 k0_h1
theorem k0_idx30_inb : ∀ (i : grid0.Coords) (v96 : IVec S16 32) (k0_hw14 : k0_chk14 i v96), ∀ (k0_h1 : k0_cond1 i = 1#1), ∀ a x, ((![v96] : Fin 1 → IVec S16 32) a x).toNat < S3200.size a := fun i v96 k0_hw14 k0_h1 => k0_hw14.2 k0_h1
@[reducible] def k0_t5_loop : Scf.Loop 32 :=
  let c0_i32_18 : BitVec 32 := 0#32
  let c250_i32_19 : BitVec 32 := 250#32
  let v15 : BitVec 32 := Scalar.addi c0_i32_18 c250_i32_19
  let c1_i32_20 : BitVec 32 := 1#32
  ⟨c0_i32_18, v15, c1_i32_20⟩
def k0_off14 (k0_t5 : Fin k0_t5_loop.trips) : Fin 1 → Nat :=
  let c0_i32_33 : BitVec 32 := 0#32
  let c0_i32_18 : BitVec 32 := 0#32
  let c1_i32_20 : BitVec 32 := 1#32
  let arg16 : BitVec 32 := Scf.iv c0_i32_18 c1_i32_20 k0_t5
  let c16_i32_32 : BitVec 32 := 16#32
  let v22 : BitVec 32 := Scalar.muli arg16 c16_i32_32
  let v23 : BitVec 32 := Scalar.addi c0_i32_33 v22
  let v24 : Index := Scalar.indexCast v23
  ![v24.toNat]

def k0_chk16 (i : grid0.Coords) (v27 : IVec S16 32) : Prop :=
  (∀ (k0_h1 : k0_cond1 i = 1#1), ∀ a x, ((![v27] : Fin 1 → IVec S16 32) a x).toNat < S3200.size a)
theorem k0_idx31_inb : ∀ (i : grid0.Coords) (v27 : IVec S16 32) (k0_hw16 : k0_chk16 i v27), ∀ (k0_h1 : k0_cond1 i = 1#1), ∀ a x, ((![v27] : Fin 1 → IVec S16 32) a x).toNat < S3200.size a := fun i v27 k0_hw16 k0_h1 => k0_hw16 k0_h1
def k0_off15 (k0_t5 : Fin k0_t5_loop.trips) : Fin 1 → Nat :=
  let c4000_i32 : BitVec 32 := 4000#32
  let c0_i32_18 : BitVec 32 := 0#32
  let c1_i32_20 : BitVec 32 := 1#32
  let arg16 : BitVec 32 := Scf.iv c0_i32_18 c1_i32_20 k0_t5
  let c16_i32_35 : BitVec 32 := 16#32
  let v28 : BitVec 32 := Scalar.muli arg16 c16_i32_35
  let v29 : BitVec 32 := Scalar.addi c4000_i32 v28
  let v30 : Index := Scalar.indexCast v29
  ![v30.toNat]

def k0_chk17 (i : grid0.Coords) (v33 : IVec S16 32) : Prop :=
  (∀ (k0_h1 : k0_cond1 i = 1#1), ∀ a x, ((![v33] : Fin 1 → IVec S16 32) a x).toNat < S3200.size a)
theorem k0_idx32_inb : ∀ (i : grid0.Coords) (v33 : IVec S16 32) (k0_hw17 : k0_chk17 i v33), ∀ (k0_h1 : k0_cond1 i = 1#1), ∀ a x, ((![v33] : Fin 1 → IVec S16 32) a x).toNat < S3200.size a := fun i v33 k0_hw17 k0_h1 => k0_hw17 k0_h1
def k0_off16 (k0_t5 : Fin k0_t5_loop.trips) : Fin 1 → Nat :=
  let c8000_i32 : BitVec 32 := 8000#32
  let c0_i32_18 : BitVec 32 := 0#32
  let c1_i32_20 : BitVec 32 := 1#32
  let arg16 : BitVec 32 := Scf.iv c0_i32_18 c1_i32_20 k0_t5
  let c16_i32_36 : BitVec 32 := 16#32
  let v34 : BitVec 32 := Scalar.muli arg16 c16_i32_36
  let v35 : BitVec 32 := Scalar.addi c8000_i32 v34
  let v36 : Index := Scalar.indexCast v35
  ![v36.toNat]

def k0_chk18 (i : grid0.Coords) (v39 : IVec S16 32) : Prop :=
  (∀ (k0_h1 : k0_cond1 i = 1#1), ∀ a x, ((![v39] : Fin 1 → IVec S16 32) a x).toNat < S3200.size a)
theorem k0_idx33_inb : ∀ (i : grid0.Coords) (v39 : IVec S16 32) (k0_hw18 : k0_chk18 i v39), ∀ (k0_h1 : k0_cond1 i = 1#1), ∀ a x, ((![v39] : Fin 1 → IVec S16 32) a x).toNat < S3200.size a := fun i v39 k0_hw18 k0_h1 => k0_hw18 k0_h1
def k0_off17 (k0_t5 : Fin k0_t5_loop.trips) : Fin 1 → Nat :=
  let c12000_i32 : BitVec 32 := 12000#32
  let c0_i32_18 : BitVec 32 := 0#32
  let c1_i32_20 : BitVec 32 := 1#32
  let arg16 : BitVec 32 := Scf.iv c0_i32_18 c1_i32_20 k0_t5
  let c16_i32_37 : BitVec 32 := 16#32
  let v40 : BitVec 32 := Scalar.muli arg16 c16_i32_37
  let v41 : BitVec 32 := Scalar.addi c12000_i32 v40
  let v42 : Index := Scalar.indexCast v41
  ![v42.toNat]

def k0_chk19 (i : grid0.Coords) (v45 : IVec S16 32) : Prop :=
  (∀ (k0_h1 : k0_cond1 i = 1#1), ∀ a x, ((![v45] : Fin 1 → IVec S16 32) a x).toNat < S3200.size a)
theorem k0_idx34_inb : ∀ (i : grid0.Coords) (v45 : IVec S16 32) (k0_hw19 : k0_chk19 i v45), ∀ (k0_h1 : k0_cond1 i = 1#1), ∀ a x, ((![v45] : Fin 1 → IVec S16 32) a x).toNat < S3200.size a := fun i v45 k0_hw19 k0_h1 => k0_hw19 k0_h1
def k0_off18 (k0_t5 : Fin k0_t5_loop.trips) : Fin 1 → Nat :=
  let c16000_i32 : BitVec 32 := 16000#32
  let c0_i32_18 : BitVec 32 := 0#32
  let c1_i32_20 : BitVec 32 := 1#32
  let arg16 : BitVec 32 := Scf.iv c0_i32_18 c1_i32_20 k0_t5
  let c16_i32_38 : BitVec 32 := 16#32
  let v46 : BitVec 32 := Scalar.muli arg16 c16_i32_38
  let v47 : BitVec 32 := Scalar.addi c16000_i32 v46
  let v48 : Index := Scalar.indexCast v47
  ![v48.toNat]

def k0_chk20 (i : grid0.Coords) (v51 : IVec S16 32) : Prop :=
  (∀ (k0_h1 : k0_cond1 i = 1#1), ∀ a x, ((![v51] : Fin 1 → IVec S16 32) a x).toNat < S3200.size a)
theorem k0_idx35_inb : ∀ (i : grid0.Coords) (v51 : IVec S16 32) (k0_hw20 : k0_chk20 i v51), ∀ (k0_h1 : k0_cond1 i = 1#1), ∀ a x, ((![v51] : Fin 1 → IVec S16 32) a x).toNat < S3200.size a := fun i v51 k0_hw20 k0_h1 => k0_hw20 k0_h1
@[reducible] def k0_t6_loop : Scf.Loop 32 :=
  let c0_i32_23 : BitVec 32 := 0#32
  let c40_i32_24 : BitVec 32 := 40#32
  let v17 : BitVec 32 := Scalar.addi c0_i32_23 c40_i32_24
  let c1_i32_25 : BitVec 32 := 1#32
  ⟨c0_i32_23, v17, c1_i32_25⟩
def k0_off19 (k0_t6 : Fin k0_t6_loop.trips) (c0_i32_33 : BitVec 32) : Fin 1 → Nat :=
  let c0_i32_23 : BitVec 32 := 0#32
  let c1_i32_25 : BitVec 32 := 1#32
  let arg16 : BitVec 32 := Scf.iv c0_i32_23 c1_i32_25 k0_t6
  let c16_i32_32 : BitVec 32 := 16#32
  let v22 : BitVec 32 := Scalar.muli arg16 c16_i32_32
  let v23 : BitVec 32 := Scalar.addi c0_i32_33 v22
  let v32 : Index := Scalar.indexCast v23
  ![v32.toNat]
@[reducible] def k0_t7_loop : Scf.Loop 32 :=
  let c0_i32_28 : BitVec 32 := 0#32
  let c250_i32_29 : BitVec 32 := 250#32
  let v20 : BitVec 32 := Scalar.addi c0_i32_28 c250_i32_29
  let c1_i32_30 : BitVec 32 := 1#32
  ⟨c0_i32_28, v20, c1_i32_30⟩
def k0_off20 (k0_t7 : Fin k0_t7_loop.trips) : Fin 1 → Nat :=
  let c0_i32_33 : BitVec 32 := 0#32
  let c0_i32_28 : BitVec 32 := 0#32
  let c1_i32_30 : BitVec 32 := 1#32
  let arg16 : BitVec 32 := Scf.iv c0_i32_28 c1_i32_30 k0_t7
  let c16_i32_32 : BitVec 32 := 16#32
  let v22 : BitVec 32 := Scalar.muli arg16 c16_i32_32
  let v23 : BitVec 32 := Scalar.addi c0_i32_33 v22
  let v24 : Index := Scalar.indexCast v23
  ![v24.toNat]

def k0_chk22 (i : grid0.Coords) (v36 : IVec S16 32) : Prop :=
  (∀ (k0_h1 : k0_cond1 i = 1#1), ∀ a x, ((![v36] : Fin 1 → IVec S16 32) a x).toNat < S20000.size a) ∧
  (∀ (k0_h1 : k0_cond1 i = 1#1), ∀ a x, ((![v36] : Fin 1 → IVec S16 32) a x).toNat < S20000.size a) ∧
  (∀ (k0_h1 : k0_cond1 i = 1#1), ∀ a x, ((![v36] : Fin 1 → IVec S16 32) a x).toNat < S20000.size a)
theorem k0_idx37_inb : ∀ (i : grid0.Coords) (v36 : IVec S16 32) (k0_hw22 : k0_chk22 i v36), ∀ (k0_h1 : k0_cond1 i = 1#1), ∀ a x, ((![v36] : Fin 1 → IVec S16 32) a x).toNat < S20000.size a := fun i v36 k0_hw22 k0_h1 => k0_hw22.1 k0_h1
theorem k0_idx38_inb : ∀ (i : grid0.Coords) (v36 : IVec S16 32) (k0_hw22 : k0_chk22 i v36), ∀ (k0_h1 : k0_cond1 i = 1#1), ∀ a x, ((![v36] : Fin 1 → IVec S16 32) a x).toNat < S20000.size a := fun i v36 k0_hw22 k0_h1 => k0_hw22.2.1 k0_h1
theorem k0_idx39_inb : ∀ (i : grid0.Coords) (v36 : IVec S16 32) (k0_hw22 : k0_chk22 i v36), ∀ (k0_h1 : k0_cond1 i = 1#1), ∀ a x, ((![v36] : Fin 1 → IVec S16 32) a x).toNat < S20000.size a := fun i v36 k0_hw22 k0_h1 => k0_hw22.2.2 k0_h1

def k0_chk21 (i : grid0.Coords) (v32 : IVec S16 32) : Prop :=
  (∀ (k0_h1 : k0_cond1 i = 1#1), ∀ a x, ((![v32] : Fin 1 → IVec S16 32) a x).toNat < S3200.size a) ∧
  (∀ (k0_h1 : k0_cond1 i = 1#1), ∀ a x, ((![v32] : Fin 1 → IVec S16 32) a x).toNat < S3200.size a)
theorem k0_idx36_inb : ∀ (i : grid0.Coords) (v32 : IVec S16 32) (k0_hw21 : k0_chk21 i v32), ∀ (k0_h1 : k0_cond1 i = 1#1), ∀ a x, ((![v32] : Fin 1 → IVec S16 32) a x).toNat < S3200.size a := fun i v32 k0_hw21 k0_h1 => k0_hw21.1 k0_h1
theorem k0_idx40_inb : ∀ (i : grid0.Coords) (v32 : IVec S16 32) (k0_hw21 : k0_chk21 i v32), ∀ (k0_h1 : k0_cond1 i = 1#1), ∀ a x, ((![v32] : Fin 1 → IVec S16 32) a x).toNat < S3200.size a := fun i v32 k0_hw21 k0_h1 => k0_hw21.2 k0_h1
def k0_off21 (k0_t7 : Fin k0_t7_loop.trips) : Fin 1 → Nat :=
  let c4000_i32 : BitVec 32 := 4000#32
  let c0_i32_28 : BitVec 32 := 0#32
  let c1_i32_30 : BitVec 32 := 1#32
  let arg16 : BitVec 32 := Scf.iv c0_i32_28 c1_i32_30 k0_t7
  let c16_i32_36 : BitVec 32 := 16#32
  let v42 : BitVec 32 := Scalar.muli arg16 c16_i32_36
  let v43 : BitVec 32 := Scalar.addi c4000_i32 v42
  let v44 : Index := Scalar.indexCast v43
  ![v44.toNat]

def k0_chk24 (i : grid0.Coords) (v56 : IVec S16 32) : Prop :=
  (∀ (k0_h1 : k0_cond1 i = 1#1), ∀ a x, ((![v56] : Fin 1 → IVec S16 32) a x).toNat < S20000.size a) ∧
  (∀ (k0_h1 : k0_cond1 i = 1#1), ∀ a x, ((![v56] : Fin 1 → IVec S16 32) a x).toNat < S20000.size a) ∧
  (∀ (k0_h1 : k0_cond1 i = 1#1), ∀ a x, ((![v56] : Fin 1 → IVec S16 32) a x).toNat < S20000.size a)
theorem k0_idx42_inb : ∀ (i : grid0.Coords) (v56 : IVec S16 32) (k0_hw24 : k0_chk24 i v56), ∀ (k0_h1 : k0_cond1 i = 1#1), ∀ a x, ((![v56] : Fin 1 → IVec S16 32) a x).toNat < S20000.size a := fun i v56 k0_hw24 k0_h1 => k0_hw24.1 k0_h1
theorem k0_idx43_inb : ∀ (i : grid0.Coords) (v56 : IVec S16 32) (k0_hw24 : k0_chk24 i v56), ∀ (k0_h1 : k0_cond1 i = 1#1), ∀ a x, ((![v56] : Fin 1 → IVec S16 32) a x).toNat < S20000.size a := fun i v56 k0_hw24 k0_h1 => k0_hw24.2.1 k0_h1
theorem k0_idx44_inb : ∀ (i : grid0.Coords) (v56 : IVec S16 32) (k0_hw24 : k0_chk24 i v56), ∀ (k0_h1 : k0_cond1 i = 1#1), ∀ a x, ((![v56] : Fin 1 → IVec S16 32) a x).toNat < S20000.size a := fun i v56 k0_hw24 k0_h1 => k0_hw24.2.2 k0_h1

def k0_chk23 (i : grid0.Coords) (v52 : IVec S16 32) : Prop :=
  (∀ (k0_h1 : k0_cond1 i = 1#1), ∀ a x, ((![v52] : Fin 1 → IVec S16 32) a x).toNat < S3200.size a) ∧
  (∀ (k0_h1 : k0_cond1 i = 1#1), ∀ a x, ((![v52] : Fin 1 → IVec S16 32) a x).toNat < S3200.size a)
theorem k0_idx41_inb : ∀ (i : grid0.Coords) (v52 : IVec S16 32) (k0_hw23 : k0_chk23 i v52), ∀ (k0_h1 : k0_cond1 i = 1#1), ∀ a x, ((![v52] : Fin 1 → IVec S16 32) a x).toNat < S3200.size a := fun i v52 k0_hw23 k0_h1 => k0_hw23.1 k0_h1
theorem k0_idx45_inb : ∀ (i : grid0.Coords) (v52 : IVec S16 32) (k0_hw23 : k0_chk23 i v52), ∀ (k0_h1 : k0_cond1 i = 1#1), ∀ a x, ((![v52] : Fin 1 → IVec S16 32) a x).toNat < S3200.size a := fun i v52 k0_hw23 k0_h1 => k0_hw23.2 k0_h1
def k0_off22 (k0_t7 : Fin k0_t7_loop.trips) : Fin 1 → Nat :=
  let c8000_i32 : BitVec 32 := 8000#32
  let c0_i32_28 : BitVec 32 := 0#32
  let c1_i32_30 : BitVec 32 := 1#32
  let arg16 : BitVec 32 := Scf.iv c0_i32_28 c1_i32_30 k0_t7
  let c16_i32_41 : BitVec 32 := 16#32
  let v62 : BitVec 32 := Scalar.muli arg16 c16_i32_41
  let v63 : BitVec 32 := Scalar.addi c8000_i32 v62
  let v64 : Index := Scalar.indexCast v63
  ![v64.toNat]

def k0_chk26 (i : grid0.Coords) (v76 : IVec S16 32) : Prop :=
  (∀ (k0_h1 : k0_cond1 i = 1#1), ∀ a x, ((![v76] : Fin 1 → IVec S16 32) a x).toNat < S20000.size a) ∧
  (∀ (k0_h1 : k0_cond1 i = 1#1), ∀ a x, ((![v76] : Fin 1 → IVec S16 32) a x).toNat < S20000.size a) ∧
  (∀ (k0_h1 : k0_cond1 i = 1#1), ∀ a x, ((![v76] : Fin 1 → IVec S16 32) a x).toNat < S20000.size a)
theorem k0_idx47_inb : ∀ (i : grid0.Coords) (v76 : IVec S16 32) (k0_hw26 : k0_chk26 i v76), ∀ (k0_h1 : k0_cond1 i = 1#1), ∀ a x, ((![v76] : Fin 1 → IVec S16 32) a x).toNat < S20000.size a := fun i v76 k0_hw26 k0_h1 => k0_hw26.1 k0_h1
theorem k0_idx48_inb : ∀ (i : grid0.Coords) (v76 : IVec S16 32) (k0_hw26 : k0_chk26 i v76), ∀ (k0_h1 : k0_cond1 i = 1#1), ∀ a x, ((![v76] : Fin 1 → IVec S16 32) a x).toNat < S20000.size a := fun i v76 k0_hw26 k0_h1 => k0_hw26.2.1 k0_h1
theorem k0_idx49_inb : ∀ (i : grid0.Coords) (v76 : IVec S16 32) (k0_hw26 : k0_chk26 i v76), ∀ (k0_h1 : k0_cond1 i = 1#1), ∀ a x, ((![v76] : Fin 1 → IVec S16 32) a x).toNat < S20000.size a := fun i v76 k0_hw26 k0_h1 => k0_hw26.2.2 k0_h1

def k0_chk25 (i : grid0.Coords) (v72 : IVec S16 32) : Prop :=
  (∀ (k0_h1 : k0_cond1 i = 1#1), ∀ a x, ((![v72] : Fin 1 → IVec S16 32) a x).toNat < S3200.size a) ∧
  (∀ (k0_h1 : k0_cond1 i = 1#1), ∀ a x, ((![v72] : Fin 1 → IVec S16 32) a x).toNat < S3200.size a)
theorem k0_idx46_inb : ∀ (i : grid0.Coords) (v72 : IVec S16 32) (k0_hw25 : k0_chk25 i v72), ∀ (k0_h1 : k0_cond1 i = 1#1), ∀ a x, ((![v72] : Fin 1 → IVec S16 32) a x).toNat < S3200.size a := fun i v72 k0_hw25 k0_h1 => k0_hw25.1 k0_h1
theorem k0_idx50_inb : ∀ (i : grid0.Coords) (v72 : IVec S16 32) (k0_hw25 : k0_chk25 i v72), ∀ (k0_h1 : k0_cond1 i = 1#1), ∀ a x, ((![v72] : Fin 1 → IVec S16 32) a x).toNat < S3200.size a := fun i v72 k0_hw25 k0_h1 => k0_hw25.2 k0_h1
def k0_off23 (k0_t7 : Fin k0_t7_loop.trips) : Fin 1 → Nat :=
  let c12000_i32 : BitVec 32 := 12000#32
  let c0_i32_28 : BitVec 32 := 0#32
  let c1_i32_30 : BitVec 32 := 1#32
  let arg16 : BitVec 32 := Scf.iv c0_i32_28 c1_i32_30 k0_t7
  let c16_i32_46 : BitVec 32 := 16#32
  let v82 : BitVec 32 := Scalar.muli arg16 c16_i32_46
  let v83 : BitVec 32 := Scalar.addi c12000_i32 v82
  let v84 : Index := Scalar.indexCast v83
  ![v84.toNat]

def k0_chk28 (i : grid0.Coords) (v96 : IVec S16 32) : Prop :=
  (∀ (k0_h1 : k0_cond1 i = 1#1), ∀ a x, ((![v96] : Fin 1 → IVec S16 32) a x).toNat < S20000.size a) ∧
  (∀ (k0_h1 : k0_cond1 i = 1#1), ∀ a x, ((![v96] : Fin 1 → IVec S16 32) a x).toNat < S20000.size a) ∧
  (∀ (k0_h1 : k0_cond1 i = 1#1), ∀ a x, ((![v96] : Fin 1 → IVec S16 32) a x).toNat < S20000.size a)
theorem k0_idx52_inb : ∀ (i : grid0.Coords) (v96 : IVec S16 32) (k0_hw28 : k0_chk28 i v96), ∀ (k0_h1 : k0_cond1 i = 1#1), ∀ a x, ((![v96] : Fin 1 → IVec S16 32) a x).toNat < S20000.size a := fun i v96 k0_hw28 k0_h1 => k0_hw28.1 k0_h1
theorem k0_idx53_inb : ∀ (i : grid0.Coords) (v96 : IVec S16 32) (k0_hw28 : k0_chk28 i v96), ∀ (k0_h1 : k0_cond1 i = 1#1), ∀ a x, ((![v96] : Fin 1 → IVec S16 32) a x).toNat < S20000.size a := fun i v96 k0_hw28 k0_h1 => k0_hw28.2.1 k0_h1
theorem k0_idx54_inb : ∀ (i : grid0.Coords) (v96 : IVec S16 32) (k0_hw28 : k0_chk28 i v96), ∀ (k0_h1 : k0_cond1 i = 1#1), ∀ a x, ((![v96] : Fin 1 → IVec S16 32) a x).toNat < S20000.size a := fun i v96 k0_hw28 k0_h1 => k0_hw28.2.2 k0_h1

def k0_chk27 (i : grid0.Coords) (v92 : IVec S16 32) : Prop :=
  (∀ (k0_h1 : k0_cond1 i = 1#1), ∀ a x, ((![v92] : Fin 1 → IVec S16 32) a x).toNat < S3200.size a) ∧
  (∀ (k0_h1 : k0_cond1 i = 1#1), ∀ a x, ((![v92] : Fin 1 → IVec S16 32) a x).toNat < S3200.size a)
theorem k0_idx51_inb : ∀ (i : grid0.Coords) (v92 : IVec S16 32) (k0_hw27 : k0_chk27 i v92), ∀ (k0_h1 : k0_cond1 i = 1#1), ∀ a x, ((![v92] : Fin 1 → IVec S16 32) a x).toNat < S3200.size a := fun i v92 k0_hw27 k0_h1 => k0_hw27.1 k0_h1
theorem k0_idx55_inb : ∀ (i : grid0.Coords) (v92 : IVec S16 32) (k0_hw27 : k0_chk27 i v92), ∀ (k0_h1 : k0_cond1 i = 1#1), ∀ a x, ((![v92] : Fin 1 → IVec S16 32) a x).toNat < S3200.size a := fun i v92 k0_hw27 k0_h1 => k0_hw27.2 k0_h1
def k0_off24 (k0_t7 : Fin k0_t7_loop.trips) : Fin 1 → Nat :=
  let c16000_i32 : BitVec 32 := 16000#32
  let c0_i32_28 : BitVec 32 := 0#32
  let c1_i32_30 : BitVec 32 := 1#32
  let arg16 : BitVec 32 := Scf.iv c0_i32_28 c1_i32_30 k0_t7
  let c16_i32_51 : BitVec 32 := 16#32
  let v102 : BitVec 32 := Scalar.muli arg16 c16_i32_51
  let v103 : BitVec 32 := Scalar.addi c16000_i32 v102
  let v104 : Index := Scalar.indexCast v103
  ![v104.toNat]

def k0_chk30 (i : grid0.Coords) (v116 : IVec S16 32) : Prop :=
  (∀ (k0_h1 : k0_cond1 i = 1#1), ∀ a x, ((![v116] : Fin 1 → IVec S16 32) a x).toNat < S20000.size a) ∧
  (∀ (k0_h1 : k0_cond1 i = 1#1), ∀ a x, ((![v116] : Fin 1 → IVec S16 32) a x).toNat < S20000.size a) ∧
  (∀ (k0_h1 : k0_cond1 i = 1#1), ∀ a x, ((![v116] : Fin 1 → IVec S16 32) a x).toNat < S20000.size a)
theorem k0_idx57_inb : ∀ (i : grid0.Coords) (v116 : IVec S16 32) (k0_hw30 : k0_chk30 i v116), ∀ (k0_h1 : k0_cond1 i = 1#1), ∀ a x, ((![v116] : Fin 1 → IVec S16 32) a x).toNat < S20000.size a := fun i v116 k0_hw30 k0_h1 => k0_hw30.1 k0_h1
theorem k0_idx58_inb : ∀ (i : grid0.Coords) (v116 : IVec S16 32) (k0_hw30 : k0_chk30 i v116), ∀ (k0_h1 : k0_cond1 i = 1#1), ∀ a x, ((![v116] : Fin 1 → IVec S16 32) a x).toNat < S20000.size a := fun i v116 k0_hw30 k0_h1 => k0_hw30.2.1 k0_h1
theorem k0_idx59_inb : ∀ (i : grid0.Coords) (v116 : IVec S16 32) (k0_hw30 : k0_chk30 i v116), ∀ (k0_h1 : k0_cond1 i = 1#1), ∀ a x, ((![v116] : Fin 1 → IVec S16 32) a x).toNat < S20000.size a := fun i v116 k0_hw30 k0_h1 => k0_hw30.2.2 k0_h1

def k0_chk29 (i : grid0.Coords) (v112 : IVec S16 32) : Prop :=
  (∀ (k0_h1 : k0_cond1 i = 1#1), ∀ a x, ((![v112] : Fin 1 → IVec S16 32) a x).toNat < S3200.size a) ∧
  (∀ (k0_h1 : k0_cond1 i = 1#1), ∀ a x, ((![v112] : Fin 1 → IVec S16 32) a x).toNat < S3200.size a)
theorem k0_idx56_inb : ∀ (i : grid0.Coords) (v112 : IVec S16 32) (k0_hw29 : k0_chk29 i v112), ∀ (k0_h1 : k0_cond1 i = 1#1), ∀ a x, ((![v112] : Fin 1 → IVec S16 32) a x).toNat < S3200.size a := fun i v112 k0_hw29 k0_h1 => k0_hw29.1 k0_h1
theorem k0_idx60_inb : ∀ (i : grid0.Coords) (v112 : IVec S16 32) (k0_hw29 : k0_chk29 i v112), ∀ (k0_h1 : k0_cond1 i = 1#1), ∀ a x, ((![v112] : Fin 1 → IVec S16 32) a x).toNat < S3200.size a := fun i v112 k0_hw29 k0_h1 => k0_hw29.2 k0_h1
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S10000x128 : Shape := ⟨2, ![10000, 128]⟩
abbrev S17 : Shape := ⟨1, ![17]⟩
abbrev S320000x2 : Shape := ⟨2, ![320000, 2]⟩
abbrev S16 : Shape := ⟨1, ![16]⟩
abbrev S320000x1 : Shape := ⟨2, ![320000, 1]⟩
abbrev S2 : Shape := ⟨1, ![2]⟩
abbrev S1 : Shape := ⟨1, ![1]⟩
abbrev S15 : Shape := ⟨1, ![15]⟩
abbrev S_ : Shape := ⟨0, ![]⟩
abbrev S320000 : Shape := ⟨1, ![320000]⟩
abbrev S16x1 : Shape := ⟨2, ![16, 1]⟩
abbrev S1x1 : Shape := ⟨2, ![1, 1]⟩

abbrev nBuf : Space → Nat
  | .hbm => 164
  | .vmem => 0
  | .smem => 0
  | _ => 0

abbrev hbmTy0_0 (i : Nat) : BufTy := match i % 128 with
  | 0 => ⟨S10000x128, .f32⟩
  | 1 => ⟨S17, .i32⟩
  | 2 => ⟨S320000x2, .i32⟩
  | 3 => ⟨S16, .i32⟩
  | 4 => ⟨S320000x1, .f32⟩
  | 5 => ⟨S2, .i32⟩
  | 6 => ⟨S16, .i32⟩
  | 7 => ⟨S1, .i32⟩
  | 8 => ⟨S15, .i32⟩
  | 9 => ⟨S16, .i32⟩
  | 10 => ⟨S_, .i32⟩
  | 11 => ⟨S1, .i32⟩
  | 12 => ⟨S_, .i32⟩
  | 13 => ⟨S16, .i32⟩
  | 14 => ⟨S_, .i32⟩
  | 15 => ⟨S_, .i32⟩
  | 16 => ⟨S16, .i32⟩
  | 17 => ⟨S_, .i32⟩
  | 18 => ⟨S320000, .i32⟩
  | 19 => ⟨S_, .i32⟩
  | 20 => ⟨S16, .i32⟩
  | 21 => ⟨S16, .i1⟩
  | 22 => ⟨S_, .i32⟩
  | 23 => ⟨S16, .i32⟩
  | 24 => ⟨S16, .i32⟩
  | 25 => ⟨S16, .i32⟩
  | 26 => ⟨S16x1, .i32⟩
  | 27 => ⟨S_, .i32⟩
  | 28 => ⟨S16, .i32⟩
  | 29 => ⟨S320000, .i32⟩
  | 30 => ⟨S_, .i32⟩
  | 31 => ⟨S_, .i32⟩
  | 32 => ⟨S320000, .i32⟩
  | 33 => ⟨S_, .i32⟩
  | 34 => ⟨S320000, .i32⟩
  | 35 => ⟨S320000, .i32⟩
  | 36 => ⟨S_, .i32⟩
  | 37 => ⟨S320000, .i32⟩
  | 38 => ⟨S320000, .i1⟩
  | 39 => ⟨S_, .i32⟩
  | 40 => ⟨S320000, .i32⟩
  | 41 => ⟨S320000, .i32⟩
  | 42 => ⟨S320000, .i32⟩
  | 43 => ⟨S320000x1, .i32⟩
  | 44 => ⟨S1, .i32⟩
  | 45 => ⟨S_, .i32⟩
  | 46 => ⟨S320000x1, .i32⟩
  | 47 => ⟨S320000x1, .i1⟩
  | 48 => ⟨S1x1, .i32⟩
  | 49 => ⟨S320000x1, .i32⟩
  | 50 => ⟨S320000x1, .i1⟩
  | 51 => ⟨S320000x1, .i1⟩
  | 52 => ⟨S_, .i1⟩
  | 53 => ⟨S320000, .i1⟩
  | 54 => ⟨S320000, .i32⟩
  | 55 => ⟨S_, .i32⟩
  | 56 => ⟨S320000, .i32⟩
  | 57 => ⟨S320000, .i32⟩
  | 58 => ⟨S320000x1, .i32⟩
  | 59 => ⟨S320000x2, .i32⟩
  | 60 => ⟨S320000x2, .i32⟩
  | 61 => ⟨S320000x1, .i32⟩
  | 62 => ⟨S320000, .i32⟩
  | 63 => ⟨S320000, .i32⟩
  | 64 => ⟨S320000, .i32⟩
  | 65 => ⟨S320000, .i32⟩
  | 66 => ⟨S_, .i32⟩
  | 67 => ⟨S320000, .i32⟩
  | 68 => ⟨S320000, .i1⟩
  | 69 => ⟨S_, .i32⟩
  | 70 => ⟨S320000, .i32⟩
  | 71 => ⟨S320000, .i32⟩
  | 72 => ⟨S320000, .i32⟩
  | 73 => ⟨S320000x1, .i32⟩
  | 74 => ⟨S1, .i32⟩
  | 75 => ⟨S_, .i32⟩
  | 76 => ⟨S320000x1, .i32⟩
  | 77 => ⟨S320000x1, .i1⟩
  | 78 => ⟨S1x1, .i32⟩
  | 79 => ⟨S320000x1, .i32⟩
  | 80 => ⟨S320000x1, .i1⟩
  | 81 => ⟨S320000x1, .i1⟩
  | 82 => ⟨S_, .i1⟩
  | 83 => ⟨S320000, .i1⟩
  | 84 => ⟨S320000x2, .i32⟩
  | 85 => ⟨S320000x2, .i1⟩
  | 86 => ⟨S_, .i32⟩
  | 87 => ⟨S320000x2, .i32⟩
  | 88 => ⟨S320000x2, .i32⟩
  | 89 => ⟨S_, .i32⟩
  | 90 => ⟨S320000, .i32⟩
  | 91 => ⟨S320000, .i1⟩
  | 92 => ⟨S_, .i32⟩
  | 93 => ⟨S320000, .i32⟩
  | 94 => ⟨S320000, .i32⟩
  | 95 => ⟨S320000, .i32⟩
  | 96 => ⟨S320000x1, .i32⟩
  | 97 => ⟨S1, .i32⟩
  | 98 => ⟨S_, .i32⟩
  | 99 => ⟨S320000x1, .i32⟩
  | 100 => ⟨S320000x1, .i1⟩
  | 101 => ⟨S1x1, .i32⟩
  | 102 => ⟨S320000x1, .i32⟩
  | 103 => ⟨S320000x1, .i1⟩
  | 104 => ⟨S320000x1, .i1⟩
  | 105 => ⟨S_, .i1⟩
  | 106 => ⟨S320000, .i1⟩
  | 107 => ⟨S320000x1, .f32⟩
  | 108 => ⟨S320000x1, .i1⟩
  | 109 => ⟨S_, .f32⟩
  | 110 => ⟨S320000x1, .f32⟩
  | 111 => ⟨S320000x1, .f32⟩
  | 112 => ⟨S320000x1, .i32⟩
  | 113 => ⟨S320000, .i32⟩
  | 114 => ⟨S320000, .i32⟩
  | 115 => ⟨S320000, .i32⟩
  | 116 => ⟨S320000, .i32⟩
  | 117 => ⟨S_, .i32⟩
  | 118 => ⟨S320000, .i32⟩
  | 119 => ⟨S320000, .i1⟩
  | 120 => ⟨S_, .i32⟩
  | 121 => ⟨S320000, .i32⟩
  | 122 => ⟨S320000, .i32⟩
  | 123 => ⟨S320000, .i32⟩
  | 124 => ⟨S320000x1, .i32⟩
  | 125 => ⟨S1, .i32⟩
  | 126 => ⟨S_, .i32⟩
  | 127 => ⟨S320000x1, .i32⟩
  | _ => ⟨S10000x128, .f32⟩

abbrev hbmTy0_1 (i : Nat) : BufTy := match i % 128 with
  | 0 => ⟨S320000x1, .i1⟩
  | 1 => ⟨S1x1, .i32⟩
  | 2 => ⟨S320000x1, .i32⟩
  | 3 => ⟨S320000x1, .i1⟩
  | 4 => ⟨S320000x1, .i1⟩
  | 5 => ⟨S_, .i1⟩
  | 6 => ⟨S320000, .i1⟩
  | 7 => ⟨S320000x2, .i32⟩
  | 8 => ⟨S320000x2, .i1⟩
  | 9 => ⟨S_, .i32⟩
  | 10 => ⟨S320000x2, .i32⟩
  | 11 => ⟨S320000x2, .i32⟩
  | 12 => ⟨S_, .i32⟩
  | 13 => ⟨S320000, .i32⟩
  | 14 => ⟨S320000, .i1⟩
  | 15 => ⟨S_, .i32⟩
  | 16 => ⟨S320000, .i32⟩
  | 17 => ⟨S320000, .i32⟩
  | 18 => ⟨S320000, .i32⟩
  | 19 => ⟨S320000x1, .i32⟩
  | 20 => ⟨S1, .i32⟩
  | 21 => ⟨S_, .i32⟩
  | 22 => ⟨S320000x1, .i32⟩
  | 23 => ⟨S320000x1, .i1⟩
  | 24 => ⟨S1x1, .i32⟩
  | 25 => ⟨S320000x1, .i32⟩
  | 26 => ⟨S320000x1, .i1⟩
  | 27 => ⟨S320000x1, .i1⟩
  | 28 => ⟨S_, .i1⟩
  | 29 => ⟨S320000, .i1⟩
  | 30 => ⟨S320000x1, .f32⟩
  | 31 => ⟨S320000x1, .i1⟩
  | 32 => ⟨S_, .f32⟩
  | 33 => ⟨S320000x1, .f32⟩
  | 34 => ⟨S320000x1, .f32⟩
  | 35 => ⟨S320000, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_c_1 : Ref sig .tc := ⟨.hbm, 12, rfl⟩
abbrev main_v3 : Ref sig .tc := ⟨.hbm, 13, rfl⟩
abbrev main_call1_call0_c : Ref sig .tc := ⟨.hbm, 14, rfl⟩
abbrev main_call1_call0_v0 : Ref sig .tc := ⟨.hbm, 15, rfl⟩
abbrev main_v4 : Ref sig .tc := ⟨.hbm, 16, rfl⟩
abbrev main_c_2 : Ref sig .tc := ⟨.hbm, 17, rfl⟩
abbrev main_v5 : Ref sig .tc := ⟨.hbm, 18, rfl⟩
abbrev main_c_3 : Ref sig .tc := ⟨.hbm, 19, rfl⟩
abbrev main_v6 : Ref sig .tc := ⟨.hbm, 20, rfl⟩
abbrev main_v7 : Ref sig .tc := ⟨.hbm, 21, rfl⟩
abbrev main_c_4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_5 : Ref sig .tc := ⟨.hbm, 27, rfl⟩
abbrev main_v12 : Ref sig .tc := ⟨.hbm, 28, rfl⟩
abbrev main_v13 : Ref sig .tc := ⟨.hbm, 29, rfl⟩
abbrev main_call2_call0_c : Ref sig .tc := ⟨.hbm, 30, rfl⟩
abbrev main_call2_call0_v0 : Ref sig .tc := ⟨.hbm, 31, rfl⟩
abbrev main_v14 : Ref sig .tc := ⟨.hbm, 32, rfl⟩
abbrev main_c_6 : Ref sig .tc := ⟨.hbm, 33, rfl⟩
abbrev main_v15 : Ref sig .tc := ⟨.hbm, 34, rfl⟩
abbrev main_v16 : Ref sig .tc := ⟨.hbm, 35, rfl⟩
abbrev main_call3_c : Ref sig .tc := ⟨.hbm, 36, rfl⟩
abbrev main_call3_v0 : Ref sig .tc := ⟨.hbm, 37, rfl⟩
abbrev main_call3_v1 : Ref sig .tc := ⟨.hbm, 38, rfl⟩
abbrev main_call3_c_0 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_call3_v5 : Ref sig .tc := ⟨.hbm, 43, rfl⟩
abbrev main_call3_c_1 : Ref sig .tc := ⟨.hbm, 44, rfl⟩
abbrev main_call3_c_2 : Ref sig .tc := ⟨.hbm, 45, rfl⟩
abbrev main_call3_v6 : Ref sig .tc := ⟨.hbm, 46, rfl⟩
abbrev main_call3_v7 : Ref sig .tc := ⟨.hbm, 47, rfl⟩
abbrev main_call3_v8 : Ref sig .tc := ⟨.hbm, 48, rfl⟩
abbrev main_call3_v9 : Ref sig .tc := ⟨.hbm, 49, rfl⟩
abbrev main_call3_v10 : Ref sig .tc := ⟨.hbm, 50, rfl⟩
abbrev main_call3_v11 : Ref sig .tc := ⟨.hbm, 51, rfl⟩
abbrev main_call3_c_3 : Ref sig .tc := ⟨.hbm, 52, rfl⟩
abbrev main_call3_v12 : Ref sig .tc := ⟨.hbm, 53, rfl⟩
abbrev main_call3_v13 : Ref sig .tc := ⟨.hbm, 54, rfl⟩
abbrev main_call3_c_4 : Ref sig .tc := ⟨.hbm, 55, rfl⟩
abbrev main_call3_v14 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_call4_v0 : Ref sig .tc := ⟨.hbm, 63, rfl⟩
abbrev main_call4_v1_0 : Ref sig .tc := ⟨.hbm, 64, rfl⟩
abbrev main_v23 : Ref sig .tc := ⟨.hbm, 65, rfl⟩
abbrev main_call5_c : Ref sig .tc := ⟨.hbm, 66, rfl⟩
abbrev main_call5_v0 : Ref sig .tc := ⟨.hbm, 67, rfl⟩
abbrev main_call5_v1 : Ref sig .tc := ⟨.hbm, 68, rfl⟩
abbrev main_call5_c_0 : Ref sig .tc := ⟨.hbm, 69, rfl⟩
abbrev main_call5_v2 : Ref sig .tc := ⟨.hbm, 70, rfl⟩
abbrev main_call5_v3 : Ref sig .tc := ⟨.hbm, 71, rfl⟩
abbrev main_call5_v4 : Ref sig .tc := ⟨.hbm, 72, rfl⟩
abbrev main_call5_v5 : Ref sig .tc := ⟨.hbm, 73, rfl⟩
abbrev main_call5_c_1 : Ref sig .tc := ⟨.hbm, 74, rfl⟩
abbrev main_call5_c_2 : Ref sig .tc := ⟨.hbm, 75, rfl⟩
abbrev main_call5_v6 : Ref sig .tc := ⟨.hbm, 76, rfl⟩
abbrev main_call5_v7 : Ref sig .tc := ⟨.hbm, 77, rfl⟩
abbrev main_call5_v8 : Ref sig .tc := ⟨.hbm, 78, rfl⟩
abbrev main_call5_v9 : Ref sig .tc := ⟨.hbm, 79, rfl⟩
abbrev main_call5_v10 : Ref sig .tc := ⟨.hbm, 80, rfl⟩
abbrev main_call5_v11 : Ref sig .tc := ⟨.hbm, 81, rfl⟩
abbrev main_call5_c_3 : Ref sig .tc := ⟨.hbm, 82, rfl⟩
abbrev main_call5_v12 : Ref sig .tc := ⟨.hbm, 83, rfl⟩
abbrev main_call5_v13 : Ref sig .tc := ⟨.hbm, 84, rfl⟩
abbrev main_call5_v14 : Ref sig .tc := ⟨.hbm, 85, rfl⟩
abbrev main_call5_c_4 : Ref sig .tc := ⟨.hbm, 86, rfl⟩
abbrev main_call5_v15 : Ref sig .tc := ⟨.hbm, 87, rfl⟩
abbrev main_v24 : Ref sig .tc := ⟨.hbm, 88, rfl⟩
abbrev main_call6_c : Ref sig .tc := ⟨.hbm, 89, rfl⟩
abbrev main_call6_v0 : Ref sig .tc := ⟨.hbm, 90, rfl⟩
abbrev main_call6_v1 : Ref sig .tc := ⟨.hbm, 91, rfl⟩
abbrev main_call6_c_0 : Ref sig .tc := ⟨.hbm, 92, rfl⟩
abbrev main_call6_v2 : Ref sig .tc := ⟨.hbm, 93, rfl⟩
abbrev main_call6_v3 : Ref sig .tc := ⟨.hbm, 94, rfl⟩
abbrev main_call6_v4 : Ref sig .tc := ⟨.hbm, 95, rfl⟩
abbrev main_call6_v5 : Ref sig .tc := ⟨.hbm, 96, rfl⟩
abbrev main_call6_c_1 : Ref sig .tc := ⟨.hbm, 97, rfl⟩
abbrev main_call6_c_2 : Ref sig .tc := ⟨.hbm, 98, rfl⟩
abbrev main_call6_v6 : Ref sig .tc := ⟨.hbm, 99, rfl⟩
abbrev main_call6_v7 : Ref sig .tc := ⟨.hbm, 100, rfl⟩
abbrev main_call6_v8 : Ref sig .tc := ⟨.hbm, 101, rfl⟩
abbrev main_call6_v9 : Ref sig .tc := ⟨.hbm, 102, rfl⟩
abbrev main_call6_v10 : Ref sig .tc := ⟨.hbm, 103, rfl⟩
abbrev main_call6_v11 : Ref sig .tc := ⟨.hbm, 104, rfl⟩
abbrev main_call6_c_3 : Ref sig .tc := ⟨.hbm, 105, rfl⟩
abbrev main_call6_v12 : Ref sig .tc := ⟨.hbm, 106, rfl⟩
abbrev main_call6_v13 : Ref sig .tc := ⟨.hbm, 107, rfl⟩
abbrev main_call6_v14 : Ref sig .tc := ⟨.hbm, 108, rfl⟩
abbrev main_call6_cst : Ref sig .tc := ⟨.hbm, 109, rfl⟩
abbrev main_call6_v15 : Ref sig .tc := ⟨.hbm, 110, rfl⟩
abbrev main_v25 : Ref sig .tc := ⟨.hbm, 111, rfl⟩
abbrev main_v26 : Ref sig .tc := ⟨.hbm, 112, rfl⟩
abbrev main_v27 : Ref sig .tc := ⟨.hbm, 113, rfl⟩
abbrev main_call7_v0 : Ref sig .tc := ⟨.hbm, 114, rfl⟩
abbrev main_call7_v1_0 : Ref sig .tc := ⟨.hbm, 115, rfl⟩
abbrev main_v28 : Ref sig .tc := ⟨.hbm, 116, rfl⟩
abbrev main_call8_c : Ref sig .tc := ⟨.hbm, 117, rfl⟩
abbrev main_call8_v0 : Ref sig .tc := ⟨.hbm, 118, rfl⟩
abbrev main_call8_v1 : Ref sig .tc := ⟨.hbm, 119, rfl⟩
abbrev main_call8_c_0 : Ref sig .tc := ⟨.hbm, 120, rfl⟩
abbrev main_call8_v2 : Ref sig .tc := ⟨.hbm, 121, rfl⟩
abbrev main_call8_v3 : Ref sig .tc := ⟨.hbm, 122, rfl⟩
abbrev main_call8_v4 : Ref sig .tc := ⟨.hbm, 123, rfl⟩
abbrev main_call8_v5 : Ref sig .tc := ⟨.hbm, 124, rfl⟩
abbrev main_call8_c_1 : Ref sig .tc := ⟨.hbm, 125, rfl⟩
abbrev main_call8_c_2 : Ref sig .tc := ⟨.hbm, 126, rfl⟩
abbrev main_call8_v6 : Ref sig .tc := ⟨.hbm, 127, rfl⟩
abbrev main_call8_v7 : Ref sig .tc := ⟨.hbm, 128, rfl⟩
abbrev main_call8_v8 : Ref sig .tc := ⟨.hbm, 129, rfl⟩
abbrev main_call8_v9 : Ref sig .tc := ⟨.hbm, 130, rfl⟩
abbrev main_call8_v10 : Ref sig .tc := ⟨.hbm, 131, rfl⟩
abbrev main_call8_v11 : Ref sig .tc := ⟨.hbm, 132, rfl⟩
abbrev main_call8_c_3 : Ref sig .tc := ⟨.hbm, 133, rfl⟩
abbrev main_call8_v12 : Ref sig .tc := ⟨.hbm, 134, rfl⟩
abbrev main_call8_v13 : Ref sig .tc := ⟨.hbm, 135, rfl⟩
abbrev main_call8_v14 : Ref sig .tc := ⟨.hbm, 136, rfl⟩
abbrev main_call8_c_4 : Ref sig .tc := ⟨.hbm, 137, rfl⟩
abbrev main_call8_v15 : Ref sig .tc := ⟨.hbm, 138, rfl⟩
abbrev main_v29 : Ref sig .tc := ⟨.hbm, 139, rfl⟩
abbrev main_call9_c : Ref sig .tc := ⟨.hbm, 140, rfl⟩
abbrev main_call9_v0 : Ref sig .tc := ⟨.hbm, 141, rfl⟩
abbrev main_call9_v1 : Ref sig .tc := ⟨.hbm, 142, rfl⟩
abbrev main_call9_c_0 : Ref sig .tc := ⟨.hbm, 143, rfl⟩
abbrev main_call9_v2 : Ref sig .tc := ⟨.hbm, 144, rfl⟩
abbrev main_call9_v3 : Ref sig .tc := ⟨.hbm, 145, rfl⟩
abbrev main_call9_v4 : Ref sig .tc := ⟨.hbm, 146, rfl⟩
abbrev main_call9_v5 : Ref sig .tc := ⟨.hbm, 147, rfl⟩
abbrev main_call9_c_1 : Ref sig .tc := ⟨.hbm, 148, rfl⟩
abbrev main_call9_c_2 : Ref sig .tc := ⟨.hbm, 149, rfl⟩
abbrev main_call9_v6 : Ref sig .tc := ⟨.hbm, 150, rfl⟩
abbrev main_call9_v7 : Ref sig .tc := ⟨.hbm, 151, rfl⟩
abbrev main_call9_v8 : Ref sig .tc := ⟨.hbm, 152, rfl⟩
abbrev main_call9_v9 : Ref sig .tc := ⟨.hbm, 153, rfl⟩
abbrev main_call9_v10 : Ref sig .tc := ⟨.hbm, 154, rfl⟩
abbrev main_call9_v11 : Ref sig .tc := ⟨.hbm, 155, rfl⟩
abbrev main_call9_c_3 : Ref sig .tc := ⟨.hbm, 156, rfl⟩
abbrev main_call9_v12 : Ref sig .tc := ⟨.hbm, 157, rfl⟩
abbrev main_call9_v13 : Ref sig .tc := ⟨.hbm, 158, rfl⟩
abbrev main_call9_v14 : Ref sig .tc := ⟨.hbm, 159, rfl⟩
abbrev main_call9_cst : Ref sig .tc := ⟨.hbm, 160, rfl⟩
abbrev main_call9_v15 : Ref sig .tc := ⟨.hbm, 161, rfl⟩
abbrev main_v30 : Ref sig .tc := ⟨.hbm, 162, rfl⟩
abbrev main_v31 : Ref sig .tc := ⟨.hbm, 163, rfl⟩

abbrev nD : Nat := 1
abbrev τ : Topo := Topo.v7x

variable {F : FTy → Type} [FloatOps F]
-- ==== Proof.Rank.lean ====
/-
  Counting sort, as arithmetic of naturals: how many of the first `n` keys lie below a key, how many equal keys stand in
  an interval, the rank of a position in the stable order of the keys, and the position that has a given rank.
-/
module

public import Idealize.ShloMosaic.PureOps
public import Mathlib.Tactic.Linarith
public import Mathlib.Tactic.Ring
public import Mathlib.Tactic.NormNum
public import Mathlib.Order.Interval.Finset.Nat
public import Mathlib.Algebra.BigOperators.Intervals
public import Mathlib.Data.Fintype.Card

@[expose] public section

namespace Cert.Proof

/-- How many positions of `[lo, hi)` have key `b`. -/
def cnt (key : ℕ → ℕ) (lo hi b : ℕ) : ℕ := ((Finset.Ico lo hi).filter fun e => key e = b).card

/-- How many of the first `n` positions have a key below `b`. -/
def less (n : ℕ) (key : ℕ → ℕ) (b : ℕ) : ℕ := ((Finset.range n).filter fun e => key e < b).card

/-- The rank of position `e` in the stable order of the first `n` keys: the positions of smaller key, and the earlier
    ones of the same key. -/
def rank (n : ℕ) (key : ℕ → ℕ) (e : ℕ) : ℕ := less n key (key e) + cnt key 0 e (key e)

/-- Position `e'` comes before `e` in the stable order of the keys. -/
def Before (key : ℕ → ℕ) (e' e : ℕ) : Prop := key e' < key e ∨ key e' = key e ∧ e' < e

instance (key : ℕ → ℕ) (e' e : ℕ) : Decidable (Before key e' e) := by unfold Before; infer_instance

theorem cnt_self (key : ℕ → ℕ) (lo b : ℕ) : cnt key lo lo b = 0 := by simp [cnt]

theorem cnt_add (key : ℕ → ℕ) {lo mid hi : ℕ} (b : ℕ) (h1 : lo ≤ mid) (h2 : mid ≤ hi) :
    cnt key lo hi b = cnt key lo mid b + cnt key mid hi b := by
  unfold cnt
  rw [← Finset.card_union_of_disjoint, ← Finset.filter_union, Finset.Ico_union_Ico_eq_Ico h1 h2]
  exact Finset.disjoint_filter_filter (Finset.Ico_disjoint_Ico_consecutive lo mid hi)

theorem cnt_congr {key key' : ℕ → ℕ} {lo hi : ℕ} (b : ℕ) (h : ∀ e, lo ≤ e → e < hi → key e = key' e) :
    cnt key lo hi b = cnt key' lo hi b := by
  unfold cnt
  congr 1
  refine Finset.filter_congr fun e he => ?_
  rw [Finset.mem_Ico] at he
  rw [h e he.1 he.2]

theorem cnt_le (key : ℕ → ℕ) (lo hi b : ℕ) : cnt key lo hi b ≤ hi - lo := by
  unfold cnt
  exact (Finset.card_filter_le _ _).trans (by simp)

theorem less_congr {n : ℕ} {key key' : ℕ → ℕ} (b : ℕ) (h : ∀ e < n, key e = key' e) : less n key b = less n key' b := by
  unfold less
  congr 1
  refine Finset.filter_congr fun e he => ?_
  rw [h e (Finset.mem_range.1 he)]

theorem less_zero (n : ℕ) (key : ℕ → ℕ) : less n key 0 = 0 := by simp [less]

theorem less_succ (n : ℕ) (key : ℕ → ℕ) (b : ℕ) : less n key (b + 1) = less n key b + cnt key 0 n b := by
  unfold less cnt
  rw [← Finset.card_union_of_disjoint]
  · congr 1
    ext e
    simp only [Finset.mem_filter, Finset.mem_range, Finset.mem_union, Finset.mem_Ico]
    omega
  · rw [Finset.disjoint_left]
    intro e h1 h2
    simp only [Finset.mem_filter] at h1 h2
    omega

/-- The keys below `b + j`: those below `b`, and those of each of the `j` keys from `b` on. -/
theorem less_add (n : ℕ) (key : ℕ → ℕ) (b j : ℕ) :
    less n key (b + j) = less n key b + ∑ i ∈ Finset.range j, cnt key 0 n (b + i) := by
  induction j with
  | zero => simp
  | succ j ih => rw [Finset.sum_range_succ, ← add_assoc, ← add_assoc, less_succ, ih]

theorem rank_eq_card {n : ℕ} (key : ℕ → ℕ) {e : ℕ} (he : e < n) :
    rank n key e = ((Finset.range n).filter fun e' => Before key e' e).card := by
  unfold rank less cnt
  rw [← Finset.card_union_of_disjoint]
  · congr 1
    ext e'
    simp only [Finset.mem_filter, Finset.mem_range, Finset.mem_union, Finset.mem_Ico]
    unfold Before
    constructor
    · rintro (⟨h1, h2⟩ | ⟨⟨-, h1⟩, h2⟩)
      · exact ⟨h1, .inl h2⟩
      · exact ⟨h1.trans he, .inr ⟨h2, h1⟩⟩
    · rintro ⟨h1, h2 | ⟨h2, h3⟩⟩
      · exact .inl ⟨h1, h2⟩
      · exact .inr ⟨⟨Nat.zero_le _, h3⟩, h2⟩
  · rw [Finset.disjoint_left]
    intro e' h1 h2
    simp only [Finset.mem_filter] at h1 h2
    omega

theorem rank_congr {n : ℕ} {key key' : ℕ → ℕ} {e : ℕ} (he : e < n) (h : ∀ e < n, key e = key' e) :
    rank n key e = rank n key' e := by
  unfold rank
  rw [h e he, less_congr _ h, cnt_congr _ fun e' _ h' => h e' (by omega)]

theorem rank_lt_of_before {n : ℕ} {key : ℕ → ℕ} {e e' : ℕ} (he' : e' < n) (he : e < n) (h : Before key e' e) :
    rank n key e' < rank n key e := by
  rw [rank_eq_card key he, rank_eq_card key he']
  refine Finset.card_lt_card (Finset.ssubset_iff_of_subset ?_ |>.2 ⟨e', ?_, ?_⟩)
  · intro x hx
    simp only [Finset.mem_filter, Finset.mem_range] at hx ⊢
    refine ⟨hx.1, ?_⟩
    have hx := hx.2
    unfold Before at h hx ⊢
    rcases h with h | ⟨h, h'⟩ <;> rcases hx with hx | ⟨hx, hx'⟩
    · exact .inl (hx.trans h)
    · exact .inl (hx ▸ h)
    · exact .inl (h ▸ hx)
    · exact .inr ⟨hx.trans h, hx'.trans h'⟩
  · simp only [Finset.mem_filter, Finset.mem_range]; exact ⟨he', h⟩
  · simp only [Finset.mem_filter]; unfold Before; omega

theorem before_or (key : ℕ → ℕ) {e e' : ℕ} (h : e ≠ e') : Before key e e' ∨ Before key e' e := by
  unfold Before; omega

theorem rank_inj {n : ℕ} {key : ℕ → ℕ} {e e' : ℕ} (he : e < n) (he' : e' < n) (h : rank n key e = rank n key e') :
    e = e' := by
  by_contra hne
  rcases before_or key hne with hb | hb
  · have := rank_lt_of_before he he' hb; omega
  · have := rank_lt_of_before he' he hb; omega

theorem rank_lt {n : ℕ} (key : ℕ → ℕ) {e : ℕ} (he : e < n) : rank n key e < n := by
  rw [rank_eq_card key he]
  calc _ < (Finset.range n).card := Finset.card_lt_card (Finset.filter_ssubset.2 ⟨e, Finset.mem_range.2 he, by simp [Before]⟩)
    _ = n := Finset.card_range n

theorem exists_rank {n : ℕ} (key : ℕ → ℕ) {p : ℕ} (hp : p < n) : ∃ e, e < n ∧ rank n key e = p := by
  let f : Fin n → Fin n := fun e => ⟨rank n key e, rank_lt key e.isLt⟩
  have hf : Function.Injective f := fun a b h => Fin.ext (rank_inj a.isLt b.isLt (congrArg Fin.val h))
  obtain ⟨e, he⟩ := (Finite.injective_iff_surjective.1 hf) ⟨p, hp⟩
  exact ⟨e, e.isLt, congrArg Fin.val he⟩

open Classical in
/-- The position of rank `p` (of the first `n`), and `p` itself from `n` on. -/
noncomputable def unrank (n : ℕ) (key : ℕ → ℕ) (p : ℕ) : ℕ :=
  if h : p < n then Classical.choose (exists_rank key h) else p

theorem unrank_lt {n : ℕ} (key : ℕ → ℕ) {p : ℕ} (hp : p < n) : unrank n key p < n := by
  rw [unrank, dif_pos hp]; exact (Classical.choose_spec (exists_rank key hp)).1

theorem rank_unrank {n : ℕ} (key : ℕ → ℕ) {p : ℕ} (hp : p < n) : rank n key (unrank n key p) = p := by
  rw [unrank, dif_pos hp]; exact (Classical.choose_spec (exists_rank key hp)).2

theorem unrank_eq {n : ℕ} {key : ℕ → ℕ} {p e : ℕ} (he : e < n) (h : rank n key e = p) : unrank n key p = e := by
  have hp : p < n := h ▸ rank_lt key he
  exact rank_inj (unrank_lt key hp) he ((rank_unrank key hp).trans h.symm)

theorem unrank_congr {n : ℕ} {key key' : ℕ → ℕ} {p : ℕ} (hp : p < n) (h : ∀ e < n, key e = key' e) :
    unrank n key p = unrank n key' p :=
  unrank_eq (unrank_lt _ hp) ((rank_congr (unrank_lt _ hp) h).trans (rank_unrank _ hp))

/-- Blocks of `n` positions whose keys are separated by their block's number: `m` per block, each key below `m`. The rank
    within all the blocks is the block's offset and the rank within the block. -/
theorem rank_blocks {n m G : ℕ} (hm : 0 < m) {key : ℕ → ℕ} (hk : ∀ e < G * n, key e < m) {key' : ℕ → ℕ}
    (hk' : ∀ e < G * n, key' e = m * (e / n) + key e) {g e : ℕ} (hg : g < G) (he : e < n) :
    rank (G * n) key' (n * g + e) = n * g + rank n (fun x => key (n * g + x)) e := by
  have hn : 0 < n := by omega
  have hle : n * g + n ≤ G * n := by
    calc n * g + n = (g + 1) * n := by ring
      _ ≤ G * n := Nat.mul_le_mul_right n hg
  have hlt : n * g + e < G * n := by omega
  rw [rank_eq_card key' hlt, rank_eq_card _ he]
  have hkey : key' (n * g + e) = m * g + key (n * g + e) := by
    rw [hk' _ hlt, Nat.mul_add_div hn, Nat.div_eq_of_lt he, Nat.add_zero]
  have : (Finset.range (G * n)).filter (fun e' => Before key' e' (n * g + e))
      = Finset.range (n * g) ∪ ((Finset.range n).filter fun e' => Before (fun x => key (n * g + x)) e' e).map
          (addLeftEmbedding (n * g)) := by
    ext x
    simp only [Finset.mem_filter, Finset.mem_range, Finset.mem_union, Finset.mem_map, addLeftEmbedding_apply]
    unfold Before
    constructor
    · intro hxb
      have hx := hxb.1
      have hb := hxb.2
      rcases lt_or_ge x (n * g) with h | h
      · exact .inl h
      · right
        rw [hkey, hk' x hx] at hb
        have hkx := hk x hx
        have hke := hk _ hlt
        have hq : x / n = g := by
          have h1 : g ≤ x / n := (Nat.le_div_iff_mul_le hn).2 (by rw [Nat.mul_comm]; exact h)
          rcases Nat.lt_or_ge g (x / n) with h2 | h2
          · have : m * (g + 1) ≤ m * (x / n) := Nat.mul_le_mul_left m h2
            rw [Nat.mul_add] at this; omega
          · omega
        have hxd : n * (x / n) + x % n = x := Nat.div_add_mod x n
        rw [hq] at hxd hb
        refine ⟨x % n, ⟨Nat.mod_lt x hn, ?_⟩, hxd⟩
        beta_reduce
        rw [hxd]
        omega
    · intro hxb
      rcases hxb with h | ⟨y, hyb, rfl⟩
      · refine ⟨by omega, ?_⟩
        have hx : x < G * n := by omega
        rw [hkey, hk' x hx]
        have hq : x / n < g := (Nat.div_lt_iff_lt_mul hn).2 (by rw [Nat.mul_comm]; exact h)
        have : m * (x / n + 1) ≤ m * g := Nat.mul_le_mul_left m hq
        rw [Nat.mul_add] at this
        have hkx := hk x hx
        omega
      · have hy := hyb.1
        have hb := hyb.2
        beta_reduce at hb
        have hx : n * g + y < G * n := by omega
        refine ⟨hx, ?_⟩
        rw [hkey, hk' _ hx, Nat.mul_add_div hn, Nat.div_eq_of_lt hy, Nat.add_zero]
        omega
  rw [this, Finset.card_union_of_disjoint, Finset.card_range, Finset.card_map]
  rw [Finset.disjoint_left]
  intro x h1 h2
  simp only [Finset.mem_map, addLeftEmbedding_apply, Finset.mem_range] at h1 h2
  obtain ⟨y, -, rfl⟩ := h2
  omega

/-- The position of a rank, block by block. -/
theorem unrank_blocks {n m G : ℕ} (hm : 0 < m) {key : ℕ → ℕ} (hk : ∀ e < G * n, key e < m) {key' : ℕ → ℕ}
    (hk' : ∀ e < G * n, key' e = m * (e / n) + key e) {g p : ℕ} (hg : g < G) (hp : p < n) :
    unrank (G * n) key' (n * g + p) = n * g + unrank n (fun x => key (n * g + x)) p := by
  have hle : n * g + n ≤ G * n := by
    calc n * g + n = (g + 1) * n := by ring
      _ ≤ G * n := Nat.mul_le_mul_right n hg
  have hu := unrank_lt (fun x => key (n * g + x)) hp
  refine unrank_eq (by omega) ?_
  rw [rank_blocks hm hk hk' hg hu, rank_unrank _ hp]

end Cert.Proof
-- ==== Proof.Reads.lean ====
/-
  The host operations of the reference, read at an index: the stable sort of positions by their keys, an index array as
  jnp prepares it for a gather, and the bit that says that all of its entries are in range.
-/
module

public import proofs.«01_k».proof.Proof.Rank
public import Idealize.ShloMosaic.Lib.ReduceAll
public import Idealize.ShloMosaic.Lib.SortFacts
public import Idealize.ShloMosaic.Lib.Routing.Ops
public import Idealize.ShloMosaic.Lib.Routing.OpsPair
public import Idealize.ShloMosaic.Lib.Routing.OpsSearch

@[expose] public section

namespace Cert.Proof

open Idealize.ShloMosaic Idealize.ShloMosaic.ValueIdx
open Idealize.ShloMosaic.Routing (shape0 shape1 shape2)

/-! ## The stable sort -/

theorem Before.trans {key : ℕ → ℕ} {a b c : ℕ} (h : Before key a b) (h' : Before key b c) : Before key a c := by
  unfold Before at *; omega

/-- Insertion in front of later positions keeps the order by key, then position. -/
theorem pairwise_insert {n : ℕ} (key : ℕ → ℕ) (B : Fin n → Fin n → Bool) (hB : ∀ a b, B a b = true ↔ key a.val < key b.val) (a : Fin n)
    (l : List (Fin n)) (hl : l.Pairwise fun x y => Before key x.val y.val) (ha : ∀ x ∈ l, a.val < x.val) :
    (insertBefore B a l).Pairwise fun x y => Before key x.val y.val := by
  induction l with
  | nil => exact List.pairwise_singleton _ _
  | cons b l ih =>
    rw [List.pairwise_cons] at hl
    have hab := ha b List.mem_cons_self
    unfold insertBefore
    split
    · next h =>
      refine List.pairwise_cons.2 ⟨fun x hx => ?_, ih hl.2 fun x hx => ha x (List.mem_cons_of_mem _ hx)⟩
      rcases List.mem_cons.1 ((perm_insertBefore B a l).mem_iff.1 hx) with rfl | hx
      · exact Or.inl ((hB _ _).1 h)
      · exact hl.1 x hx
    · next h =>
      have hba : Before key a.val b.val := by
        have : ¬ key b.val < key a.val := fun h' => h ((hB _ _).2 h')
        unfold Before; omega
      refine List.pairwise_cons.2 ⟨fun x hx => ?_, List.pairwise_cons.2 hl⟩
      rcases List.mem_cons.1 hx with rfl | hx
      · exact hba
      · exact hba.trans (hl.1 x hx)

/-- The stable sort of positions in order is in order by key, then position. -/
theorem pairwise_sort {n : ℕ} (key : ℕ → ℕ) (B : Fin n → Fin n → Bool) (hB : ∀ a b, B a b = true ↔ key a.val < key b.val)
    (l : List (Fin n)) (hl : l.Pairwise fun x y => x.val < y.val) : (stableSort B l).Pairwise fun x y => Before key x.val y.val := by
  induction l with
  | nil => exact List.Pairwise.nil
  | cons a l ih =>
    rw [List.pairwise_cons] at hl
    exact pairwise_insert key B hB a _ (ih hl.2) fun x hx => hl.1 x ((perm_stableSort B l).mem_iff.1 hx)

/-- A strictly increasing map of the first `n` numbers into themselves is the identity. -/
theorem eq_self_of_increasing {n : ℕ} (f : ℕ → ℕ) (hf : ∀ i j, i < j → j < n → f i < f j) (hn : ∀ i < n, f i < n) {i : ℕ} (hi : i < n) :
    f i = i := by
  have step : ∀ k i, i + k < n → f i + k ≤ f (i + k) := fun k => by
    induction k with
    | zero => intro i _; exact Nat.le_refl _
    | succ k ih =>
      intro i h
      have h1 := ih i (by omega)
      have h2 := hf (i + k) (i + (k + 1)) (by omega) h
      omega
  have h1 := step i 0 (by omega)
  have h2 := step (n - 1 - i) i (by omega)
  rw [show 0 + i = i by omega] at h1
  rw [show i + (n - 1 - i) = n - 1 by omega] at h2
  have h3 := hn (n - 1) (by omega)
  omega

/-- The position that a stable sort by keys puts at `r` is the one whose rank is `r`. -/
theorem sortedFrom_eq {n : ℕ} (key : ℕ → ℕ) (B : Fin n → Fin n → Bool) (hB : ∀ a b, B a b = true ↔ key a.val < key b.val) (r : Fin n) :
    (sortedFrom B r).val = unrank n key r.val := by
  have hp : (sortPositions n B).Pairwise fun x y => Before key x.val y.val := pairwise_sort key B hB _ (List.pairwise_lt_finRange n)
  have hord : ∀ i j (hi : i < n) (hj : j < n), i < j → Before key (sortedFrom B ⟨i, hi⟩).val (sortedFrom B ⟨j, hj⟩).val :=
    fun i j hi hj h => (List.pairwise_iff_get.1 hp) _ _ (show i < j from h)
  refine (unrank_eq (sortedFrom B r).isLt ?_).symm
  have key' := eq_self_of_increasing (n := n) (fun i => if h : i < n then rank n key (sortedFrom B ⟨i, h⟩).val else 0) (fun i j hij hj => by
      have hi : i < n := by omega
      simp only [hi, hj, dif_pos]
      exact rank_lt_of_before (Fin.isLt _) (Fin.isLt _) (hord i j hi hj hij)) (fun i hi => by
      simp only [hi, dif_pos]
      exact rank_lt key (Fin.isLt _)) r.isLt
  simpa only [r.isLt, dif_pos] using key'

/-- jnp's `argsort` of words that hold small numbers. -/
theorem argsort_read {n : ℕ} (x : IVec (shape1 n) 32) (key : ℕ → ℕ) (hx : ∀ j : Fin n, x (ix1 j) = BitVec.ofNat 32 (key j.val))
    (hk : ∀ j < n, key j < 2 ^ 31) (cmp : BitVec 32 × BitVec 32 → BitVec 32 × BitVec 32 → BitVec 1) (hc : ∀ l r, cmp l r = IntOp.cmpi .slt l.1 r.1)
    (r : Fin n) : (Host.sort2 (shape1 n) 0 cmp x (iotaInDim (shape1 n) 32 0)).2 (ix1 r) = BitVec.ofNat 32 (unrank n key r.val) := by
  have hd : 0 < (shape1 n).rank := Nat.zero_lt_one
  have e : ∀ (j : (shape1 n).Idx) (c : Fin n), j.along (⟨0, hd⟩ : Fin (shape1 n).rank) c = ix1 c := fun j c =>
    (Shape.Idx.along_rank1 j c).trans (Routing.ofFin_eq_ix1 c)
  unfold Host.sort2
  rw [dif_pos hd]
  have hs := sortedFrom_eq (n := n) key (fun k k' => cmp (x ((ix1 r).along ⟨0, hd⟩ k), iotaInDim (shape1 n) 32 0 ((ix1 r).along ⟨0, hd⟩ k))
      (x ((ix1 r).along ⟨0, hd⟩ k'), iotaInDim (shape1 n) 32 0 ((ix1 r).along ⟨0, hd⟩ k')) == 1#1) (fun a b => by
    rw [beq_iff_eq, hc]
    show IntOp.cmpi .slt (x _) (x _) = 1#1 ↔ _
    rw [e, e, hx, hx]
    exact StableHlo.Predicate.slt_ofNat_iff _ _ (hk _ a.isLt) (hk _ b.isLt)) r
  rw [← hs]
  exact congrArg (iotaInDim (shape1 n) 32 0) (e _ _)

/-! ## The indices of a gather -/

/-- Indices made nonnegative, `where(i < 0, i + N, i)`, as a column: those that are small are as they were. -/
theorem wrapped {n : ℕ} (v : IVec (shape1 n) 32) (a : IVec (shape1 n) 32) (p : ℕ → ℕ) (hv : ∀ j : Fin n, v (ix1 j) = BitVec.ofNat 32 (p j.val)) (hp : ∀ j < n, p j < 2 ^ 31)
    (h0 : shape0.BroadcastsInDim (shape1 n) (![] : Fin 0 → Fin (shape1 n).rank)) (h1 : (shape1 n).BroadcastsInDim (shape2 n 1) (![0] : Fin 1 → Fin (shape2 n 1).rank)) (j : Fin n) :
    broadcastInDim (shape2 n 1) ![0] h1 (select (cmpi .slt v (broadcastInDim (shape1 n) ![] h0 (constantI shape0 32 0#32))) a v) (ix2 j 0)
      = BitVec.ofNat 32 (p j.val) := by
  rw [Routing.bcCol]
  show Scalar.select (IntOp.cmpi .slt (v (ix1 j)) _) (a (ix1 j)) (v (ix1 j)) = _
  rw [Routing.bc0, hv]
  exact Routing.wrap_of_lt _ _ (by rw [BitVec.toNat_ofNat]; exact lt_of_le_of_lt (Nat.mod_le _ _) (hp _ j.isLt))

/-- The bit that says that an index is at least 0 and at most `M`, for all rows of a column whose entries are. -/
theorem in_range {n : ℕ} (w : IVec (shape2 n 1) 32) (p : ℕ → ℕ) (hw : ∀ j : Fin n, w (ix2 j 0) = BitVec.ofNat 32 (p j.val)) {M : ℕ} (hM : M < 2 ^ 31)
    (hp : ∀ j < n, p j ≤ M) (lo hi : IVec (shape2 n 1) 32) (hlo : ∀ j, lo j = 0#32) (hhi : ∀ j, hi j = BitVec.ofNat 32 M)
    (h : (shape2 n 1).ReducesTo [1] (shape1 n)) (hu : 0 < shape0.numel) (j : Fin n) :
    Host.reduce IntOp.andi (andi (cmpi .sge w lo) (cmpi .sle w hi)) (constantI shape0 1 1#1) h hu (ix1 j) = 1#1 := by
  refine Host.reduce_andi_one _ _ h hu _ rfl fun i => ?_
  obtain ⟨a, b, rfl⟩ : ∃ (a : Fin n) (b : Fin 1), i = ix2 a b := ⟨i 0, i 1, eq_ix2 i⟩
  rw [Subsingleton.elim b 0]
  show IntOp.andi (IntOp.cmpi .sge (w _) (lo _)) (IntOp.cmpi .sle (w _) (hi _)) = 1#1
  have hpa := hp _ a.isLt
  rw [hw, hlo, hhi]
  have h1 : IntOp.cmpi .sge (BitVec.ofNat 32 (p a.val)) 0#32 = 1#1 := (StableHlo.Predicate.sle_ofNat_iff 0 _ (by omega) (by omega)).2 (Nat.zero_le _)
  have h2 : IntOp.cmpi .sle (BitVec.ofNat 32 (p a.val)) (BitVec.ofNat 32 M) = 1#1 := (StableHlo.Predicate.sle_ofNat_iff _ _ (by omega) hM).2 hpa
  rw [h1, h2]
  rfl

/-- Rows taken at indices that are in range: the row at the index, and nothing of the fill. -/
theorem take_rows {α : Type} {n C : ℕ} (d : GatherDims (shape2 n C) (shape2 n 1) (shape2 n C)) (hoff : d.offsetDims = [1]) (hcoll : d.collapsedSliceDims = [0])
    (hob : d.operandBatchingDims = []) (hsim : d.startIndexMap = [0]) (hivd : d.indexVectorDim = 1) (x fill : (shape2 n C).Idx → α) (w : IVec (shape2 n 1) 32) (p : ℕ → ℕ)
    (hw : ∀ j : Fin n, w (ix2 j 0) = BitVec.ofNat 32 (p j.val)) (hn : n < 2 ^ 31) (hp : ∀ j < n, p j < n) (lo hi : IVec (shape2 n 1) 32) (hlo : ∀ j, lo j = 0#32)
    (hhi : ∀ j, hi j = BitVec.ofNat 32 (n - 1)) (h : (shape2 n 1).ReducesTo [1] (shape1 n)) (hu : 0 < shape0.numel)
    (hb : (shape1 n).BroadcastsInDim (shape2 n C) (![0] : Fin 1 → Fin (shape2 n C).rank)) (j : Fin n) (c : Fin C) :
    select (broadcastInDim (shape2 n C) ![0] hb (Host.reduce IntOp.andi (andi (cmpi .sge w lo) (cmpi .sle w hi)) (constantI shape0 1 1#1) h hu))
      (Host.gather d x w) fill (ix2 j c) = x (ix2 ⟨p j.val, hp _ j.isLt⟩ c) := by
  have hm : ∀ i, Host.reduce IntOp.andi (andi (cmpi .sge w lo) (cmpi .sle w hi)) (constantI shape0 1 1#1) h hu i = 1#1 := fun i => by
    rw [eq_ix1 i]
    exact in_range w p hw (by omega) (fun j hj => by have := hp j hj; omega) lo hi hlo hhi h hu _
  refine (congrArg (fun b => Scalar.select b (Host.gather d x w (ix2 j c)) (fill (ix2 j c))) (hm _)).trans ((select_one _ _).trans ?_)
  exact Routing.gather_row d hoff hcoll hob hsim hivd x w j c ⟨p j.val, hp _ j.isLt⟩ (hw j) hn

/-- An entry taken at an index that is in range. -/
theorem take_entries {N n : ℕ} (d : GatherDims (shape1 N) (shape2 n 1) (shape1 n)) (hcoll : d.collapsedSliceDims = [0])
    (hob : d.operandBatchingDims = []) (hsim : d.startIndexMap = [0]) (hivd : d.indexVectorDim = 1) (x : IVec (shape1 N) 32) (fill : IVec (shape1 n) 32) (w : IVec (shape2 n 1) 32) (p : ℕ → ℕ)
    (hw : ∀ j : Fin n, w (ix2 j 0) = BitVec.ofNat 32 (p j.val)) (hN : N < 2 ^ 31) (hp : ∀ j < n, p j < N) (lo hi : IVec (shape2 n 1) 32) (hlo : ∀ j, lo j = 0#32)
    (hhi : ∀ j, hi j = BitVec.ofNat 32 (N - 1)) (h : (shape2 n 1).ReducesTo [1] (shape1 n)) (hu : 0 < shape0.numel) (j : Fin n) :
    select (Host.reduce IntOp.andi (andi (cmpi .sge w lo) (cmpi .sle w hi)) (constantI shape0 1 1#1) h hu) (Host.gather d x w) fill (ix1 j)
      = x (ix1 ⟨p j.val, hp _ j.isLt⟩) := by
  show Scalar.select (Host.reduce IntOp.andi _ _ h hu (ix1 j)) (Host.gather d x w (ix1 j)) _ = _
  rw [in_range w p hw (by omega : N - 1 < 2 ^ 31) (fun j hj => by have := hp j hj; omega) lo hi hlo hhi h hu, select_one]
  exact Routing.take_ap d hcoll hob hsim hivd x w j (hp _ j.isLt) (by have := hp _ j.isLt; omega) (hw j)

/-! ## Counting marks -/

/-- Adding one at each hit, in turn, from a word that holds `z`. -/
theorem fold_marks {ι : Type} (f : BitVec 32 → ι → BitVec 32) (hit : ι → Bool) (hf : ∀ a n, f a n = if hit n = true then IntOp.addi a 1#32 else a) (l : List ι) (a : BitVec 32)
    (z : ℕ) (ha : a = BitVec.ofNat 32 z) : l.foldl f a = BitVec.ofNat 32 (z + l.countP hit) :=
  Eq.trans (List.foldl_hom (fun r : Unit → BitVec 32 => r ()) (g₁ := fun r n _ => f (r ()) n) (g₂ := f) (l := l) (init := fun _ => a) fun _ _ => rfl)
    (Routing.foldl_count _ () hit (fun r n => hf (r ()) n) l (fun _ => a) z ha)

/-- `M` ones added at the places that an array of indices names: each entry is the number of indices that name it. -/
theorem marks {N M : ℕ} (wf : ScatterDims.WF (shape1 N) (shape2 M 1) (shape1 M) [] [0] [0] 1) (x : IVec (shape1 N) 32) (hx : ∀ e, x e = 0#32) (idx : IVec (shape2 M 1) 32)
    (upd : IVec (shape1 M) 32) (hu : ∀ i, upd i = 1#32) (p : ℕ → ℕ) (hi : ∀ i : Fin M, idx (ix2 i 0) = BitVec.ofNat 32 (p i.val)) (hp : ∀ i < M, p i < 2 ^ 31) (e : Fin N) :
    Host.scatter (⟨[], [0], [0], 1, wf⟩ : ScatterDims (shape1 N) (shape2 M 1) (shape1 M)) IntOp.addi x idx upd (ix1 e)
      = BitVec.ofNat 32 (Nat.count (fun i => p i = e.val) M) := by
  rw [Routing.scatter_at]
  have lands : ∀ n : Fin (shape1 M).numel, (ScatterDims.resultIdx? (⟨[], [0], [0], 1, wf⟩ : ScatterDims (shape1 N) (shape2 M 1) (shape1 M)) ((shape1 M).rowMajor.symm n) idx
      = some (ix1 e)) ↔ p n.val = e.val := fun n => by
    have hn : n.val < M := lt_of_lt_of_eq n.isLt (Routing.numel1 M)
    have hs : ScatterDims.start (⟨[], [0], [0], 1, wf⟩ : ScatterDims (shape1 N) (shape2 M 1) (shape1 M)) (ix1 (n.cast (Routing.numel1 M))) idx 0
        = (idx (ix2 (n.cast (Routing.numel1 M)) 0)).toInt := by
      refine congrArg (fun i => (idx i).toInt) (funext fun a => Fin.ext ?_)
      match a with
      | ⟨0, _⟩ => rfl
      | ⟨1, _⟩ => rfl
    have hw : ScatterDims.window (⟨[], [0], [0], 1, wf⟩ : ScatterDims (shape1 N) (shape2 M 1) (shape1 M)) (ix1 (n.cast (Routing.numel1 M))) 0 = 0 := rfl
    rw [Routing.symm1, Routing.resultIdx?_ix1, hs, hw, hi]
    refine Eq.to_iff (congrArg (fun z : ℤ => z + ((0 : ℕ) : ℤ) = e.val) (StableHlo.Predicate.toInt_ofNat_small _ (hp _ hn))) |>.trans ?_
    show ((p n.val : ℤ) + ((0 : ℕ) : ℤ) = e.val) ↔ _
    omega
  refine (fold_marks _ (fun n => decide (p n.val = e.val)) (fun a n => ?_) _ _ 0 (hx _)).trans ?_
  · rw [hu]
    exact if_congr ((lands n).trans (decide_eq_true_iff (p := p n.val = e.val)).symm) rfl rfl
  · rw [Nat.zero_add, Routing.countP_finRange _ (fun i => p i = e.val), Routing.numel1]

end Cert.Proof
-- ==== Proof.Words.lean ====
/-
  The word vectors the counting sort uses, read at an index: arrays of one axis given by a function of the position, an
  indexed store of sixteen lanes, plain and added, the running occurrence count of a vector and the mask of last
  occurrences, the running sum.
-/
module

public import proofs.«01_k».proof.Proof.Rank
public import Idealize.ShloMosaic.Lib.Tactic

@[expose] public section

namespace Cert.Proof

open Idealize.ShloMosaic

/-- The one-axis shape of `n` elements. -/
abbrev Sh (n : ℕ) : Shape := ⟨1, ![n]⟩

/-- The one-axis array whose element at position `p` is `G p`. -/
def arr {α : Type} (n : ℕ) (G : ℕ → α) : (Sh n).Idx → α := fun x => G (x 0).val

theorem arr_apply {α : Type} (n : ℕ) (G : ℕ → α) (x : (Sh n).Idx) : arr n G x = G (x 0).val := rfl

theorem idx_lt {n : ℕ} (x : (Sh n).Idx) : (x 0).val < n := (x 0).isLt

theorem idx_ext {n : ℕ} {x y : (Sh n).Idx} (h : (x 0).val = (y 0).val) : x = y := by
  funext a; rw [Fin.eq_zero a]; exact Fin.ext h

/-- The index of position `p`. -/
def at' {n : ℕ} (p : ℕ) (h : p < n) : (Sh n).Idx := fun a => ⟨p, by rw [Fin.eq_zero a]; exact h⟩

@[simp] theorem at'_val {n p : ℕ} (h : p < n) : ((at' p h : (Sh n).Idx) 0).val = p := rfl

theorem arr_congr {α : Type} {n : ℕ} {G G' : ℕ → α} (h : ∀ p < n, G p = G' p) : arr n G = arr n G' :=
  funext fun x => h _ (idx_lt x)

/-- Positions of an array counted: those of an interval. -/
theorem card_idx (n m : ℕ) (P : ℕ → Prop) [DecidablePred P] :
    (Finset.univ.filter fun x : (Sh n).Idx => P (m + (x 0).val)).card = ((Finset.Ico m (m + n)).filter P).card := by
  refine Finset.card_bij (fun x _ => m + (x 0).val) (fun x hx => ?_) (fun x _ y _ h => idx_ext (by omega)) (fun p hp => ?_)
  · have := idx_lt x
    rw [Finset.mem_filter, Finset.mem_Ico]
    exact ⟨by omega, (Finset.mem_filter.1 hx).2⟩
  · rw [Finset.mem_filter, Finset.mem_Ico] at hp
    refine ⟨at' (p - m) (by omega), Finset.mem_filter.2 ⟨Finset.mem_univ _, ?_⟩, ?_⟩ <;> rw [at'_val] <;>
      rw [show m + (p - m) = p by omega]
    exact hp.2

theorem ofLane_zero {d : Fin 1 → ℕ} (x : (⟨1, d⟩ : Shape).Idx) : Shape.ofLane (x 0) = x := by
  funext a; rw [Fin.eq_zero a]; exact Fin.ext rfl

/-- The lanes of a vector, counted by their number. -/
theorem card_lane {d : Fin 1 → ℕ} (P : (⟨1, d⟩ : Shape).Idx → Prop) [DecidablePred P] :
    (Finset.univ.filter fun k : Fin (d 0) => P (Shape.ofLane k)).card = (Finset.univ.filter P).card := by
  refine Finset.card_bij (fun k _ => Shape.ofLane k) (fun k hk => ?_) (fun k _ l _ h => ?_) (fun x hx => ?_)
  · exact Finset.mem_filter.2 ⟨Finset.mem_univ _, (Finset.mem_filter.1 hk).2⟩
  · exact congrFun h 0
  · exact ⟨x 0, Finset.mem_filter.2 ⟨Finset.mem_univ _, by rw [ofLane_zero]; exact (Finset.mem_filter.1 hx).2⟩, ofLane_zero x⟩

section Store

variable {F : FTy → Type} [FloatOps F] {e : EltTy} {n : ℕ} {d : Fin 1 → ℕ}

/-- What lane `k` of an indexed store does to the contents. -/
def storeStep (ix : IVec ⟨1, d⟩ 32) (v : Vec F ⟨1, d⟩ e) (mask : IVec ⟨1, d⟩ 1) (add : Bool) (g : Vec F (Sh n) e) (k : Fin (d 0)) :
    Vec F (Sh n) e := fun j =>
  if mask (Shape.ofLane k) = 1 ∧ (j 0).val = (ix (Shape.ofLane k)).toNat then
    if add then Elt.idxAdd e (g j) (v (Shape.ofLane k)) else v (Shape.ofLane k)
  else g j

theorem storeIdx_eq (g : Vec F (Sh n) e) (ix : IVec ⟨1, d⟩ 32) (v : Vec F ⟨1, d⟩ e) (mask : IVec ⟨1, d⟩ 1) (add : Bool)
    (h : ∀ a x, ((![ix] : Fin 1 → IVec ⟨1, d⟩ 32) a x).toNat < (Sh n).size a) :
    storeIdx g ![ix] v mask add h = (List.finRange (d 0)).foldl (storeStep ix v mask add) g := by
  unfold storeIdx
  congr 1
  funext g k j
  have hall : (∀ a, (j a).val = (idxAt ![ix] h (Shape.ofLane k) a).val) ↔ (j 0).val = (ix (Shape.ofLane k)).toNat :=
    ⟨fun H => H 0, fun H a => by rw [Fin.eq_zero a]; exact H⟩
  by_cases hm : mask (Shape.ofLane k) = 1
  · by_cases hj : (j 0).val = (ix (Shape.ofLane k)).toNat
    · have hi : idxAt ![ix] h (Shape.ofLane k) = j := idx_ext hj.symm
      simp only [hm, if_true, storeStep, hj, and_self, hi, implies_true]
    · simp only [hm, if_true, storeStep, hj, and_false, if_false]
      rw [if_neg (fun H => hj (hall.1 H))]
  · simp only [hm, if_false, storeStep, false_and]

/-- An indexed store that does not add, whose lanes agree with `g'` where they write: it leaves `g'`, if `g'` is what
    was there wherever no lane writes. -/
theorem storeIdx_false (g : Vec F (Sh n) e) (ix : IVec ⟨1, d⟩ 32) (v : Vec F ⟨1, d⟩ e) (mask : IVec ⟨1, d⟩ 1)
    (h : ∀ a x, ((![ix] : Fin 1 → IVec ⟨1, d⟩ 32) a x).toNat < (Sh n).size a) (g' : Vec F (Sh n) e)
    (hw : ∀ x, mask x = 1 → ∀ j : (Sh n).Idx, (j 0).val = (ix x).toNat → g' j = v x)
    (hk : ∀ j : (Sh n).Idx, (∀ x, mask x = 1 → (j 0).val ≠ (ix x).toNat) → g' j = g j) :
    storeIdx g ![ix] v mask false h = g' := by
  rw [storeIdx_eq]
  have key : ∀ (l : List (Fin (d 0))) (acc : Vec F (Sh n) e) (j : (Sh n).Idx),
      (acc j = g' j ∨ ∃ k ∈ l, mask (Shape.ofLane k) = 1 ∧ (j 0).val = (ix (Shape.ofLane k)).toNat) →
      l.foldl (storeStep ix v mask false) acc j = g' j := by
    intro l
    induction l with
    | nil => intro acc j hj; rcases hj with hj | ⟨k, hk, -⟩; exacts [hj, absurd hk List.not_mem_nil]
    | cons k l ih =>
      intro acc j hj
      rw [List.foldl_cons]
      apply ih
      by_cases hhit : mask (Shape.ofLane k) = 1 ∧ (j 0).val = (ix (Shape.ofLane k)).toNat
      · left
        rw [storeStep, if_pos hhit]
        exact (hw _ hhit.1 j hhit.2).symm
      · rcases hj with hj | ⟨k', hk', hm⟩
        · left; rw [storeStep, if_neg hhit]; exact hj
        · rcases List.mem_cons.1 hk' with rfl | hk'
          · exact absurd hm hhit
          · exact .inr ⟨k', hk', hm⟩
  funext j
  refine key (List.finRange (d 0)) g j ?_
  by_cases hex : ∃ k : Fin (d 0), mask (Shape.ofLane k) = 1 ∧ (j 0).val = (ix (Shape.ofLane k)).toNat
  · obtain ⟨k, hk'⟩ := hex; exact .inr ⟨k, List.mem_finRange k, hk'⟩
  · left
    refine (hk j fun x hx hj => hex ⟨x 0, ?_⟩).symm
    rw [ofLane_zero]; exact ⟨hx, hj⟩

/-- An indexed store that adds a one per lane: each word is increased by how many lanes name it. -/
theorem storeIdx_ones (g : Vec F (Sh n) .i32) (ix : IVec ⟨1, d⟩ 32)
    (h : ∀ a x, ((![ix] : Fin 1 → IVec ⟨1, d⟩ 32) a x).toNat < (Sh n).size a) (j : (Sh n).Idx) :
    storeIdx (F := F) (e := .i32) g ![ix] (fun _ => 1#32) (fun _ => 1#1) true h j
      = (g j : BitVec 32) + BitVec.ofNat 32 (Finset.univ.filter fun x : (⟨1, d⟩ : Shape).Idx => (ix x).toNat = (j 0).val).card := by
  rw [← card_lane (fun x => (ix x).toNat = (j 0).val), storeIdx_eq]
  have key : ∀ (l : List (Fin (d 0))) (acc : Vec F (Sh n) .i32),
      l.foldl (storeStep (F := F) (e := .i32) ix (fun _ => 1#32) (fun _ => 1#1) true) acc j
        = (acc j : BitVec 32) + BitVec.ofNat 32 (l.countP fun k => (ix (Shape.ofLane k)).toNat = (j 0).val) := by
    intro l
    induction l with
    | nil => intro acc; simp
    | cons k l ih =>
      intro acc
      rw [List.foldl_cons, ih, List.countP_cons]
      by_cases hhit : (ix (Shape.ofLane k)).toNat = (j 0).val
      · rw [storeStep, if_pos ⟨rfl, hhit.symm⟩]
        simp only [hhit, decide_true, if_true, BitVec.ofNat_add]
        show ((acc j : BitVec 32) + 1#32) + _ = (acc j : BitVec 32) + (_ + 1#32)
        rw [BitVec.add_assoc, BitVec.add_comm 1#32]
      · rw [storeStep, if_neg fun hall => hhit hall.2.symm]
        simp [hhit]
  rw [key (List.finRange (d 0)) g]
  congr 2
  rw [Finset.card_def, Finset.filter_val, ← Multiset.countP_eq_card_filter]
  rfl

end Store

theorem word_inj {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

theorem word_toNat {a : ℕ} (ha : a < 2 ^ 32) : (BitVec.ofNat 32 a).toNat = a := by
  rw [BitVec.toNat_ofNat, Nat.mod_eq_of_lt ha]

/-- The running occurrence counts of an unmasked vector of keys. -/
theorem scanCount_snd (key : ℕ → ℕ) (o : ℕ) (hk : ∀ p, key p < 2 ^ 32) (x : (Sh 16).Idx) :
    (scanCount (broadcast (Sh 16) 1#1) (arr 16 fun k => BitVec.ofNat 32 (key (o + k)))).2 x
      = BitVec.ofNat 32 (cnt key o (o + (x 0).val + 1) (key (o + (x 0).val))) := by
  have hx := idx_lt x
  unfold scanCount
  dsimp only
  rw [if_pos (show broadcast (Sh 16) 1#1 x = 1 from rfl)]
  congr 1
  have h1 := card_idx 16 o fun p => p < o + (x 0).val + 1 ∧ key p = key (o + (x 0).val)
  have h2 : (Finset.Ico o (o + 16)).filter (fun p => p < o + (x 0).val + 1 ∧ key p = key (o + (x 0).val))
      = (Finset.Ico o (o + (x 0).val + 1)).filter fun p => key p = key (o + (x 0).val) := by
    ext p; simp only [Finset.mem_filter, Finset.mem_Ico]; omega
  unfold cnt
  rw [← h2, ← h1]
  congr 1
  refine Finset.filter_congr fun j _ => ?_
  rw [Shape.rowMajor_val_one, Shape.rowMajor_val_one]
  rw [show (broadcast (Sh 16) 1#1 j = 1) = True from eq_true rfl, arr_apply, arr_apply, word_inj (hk _) (hk _)]
  constructor
  · rintro ⟨h, -, h'⟩; exact ⟨by omega, h'⟩
  · rintro ⟨h, h'⟩; exact ⟨by omega, trivial, h'⟩

theorem ite_one (P : Prop) {_ : Decidable P} : (if P then (1 : BitVec 1) else 0) = 1 ↔ P := by
  split
  · rename_i h; exact iff_of_true rfl h
  · rename_i h; exact iff_of_false (by decide) h

/-- The mask of last occurrences of an unmasked vector of keys. -/
theorem scanCount_fst (key : ℕ → ℕ) (o : ℕ) (hk : ∀ p, key p < 2 ^ 32) (x : (Sh 16).Idx) :
    (scanCount (broadcast (Sh 16) 1#1) (arr 16 fun k => BitVec.ofNat 32 (key (o + k)))).1 x = 1
      ↔ ∀ p, o + (x 0).val < p → p < o + 16 → key p ≠ key (o + (x 0).val) := by
  unfold scanCount
  dsimp only
  refine (ite_one _).trans ?_
  constructor
  · rintro ⟨-, h⟩ p hp hp' hkp
    refine h (at' (p - o) (by omega)) ?_ ⟨rfl, ?_⟩
    · rw [Shape.rowMajor_val_one, Shape.rowMajor_val_one, at'_val]; omega
    · rw [arr_apply, arr_apply, at'_val, show o + (p - o) = p by omega, hkp]
  · intro h
    refine ⟨rfl, fun j hj => ?_⟩
    rintro ⟨-, hv⟩
    rw [Shape.rowMajor_val_one, Shape.rowMajor_val_one] at hj
    rw [arr_apply, arr_apply, word_inj (hk _) (hk _)] at hv
    have := idx_lt j
    exact h (o + (j 0).val) (by omega) (by omega) hv

theorem foldl_addi {β : Type} (u : β → ℕ) (l : List β) (r : BitVec 32) :
    l.foldl (fun r k => ScanKind.sum.step r (BitVec.ofNat 32 (u k))) r = r + BitVec.ofNat 32 (l.map u).sum := by
  induction l generalizing r with
  | nil => simp
  | cons k l ih =>
    rw [List.foldl_cons, ih, List.map_cons, List.sum_cons, BitVec.ofNat_add, ← BitVec.add_assoc]
    rfl

/-- The running sum of a vector of words. -/
theorem scan_sum (u : ℕ → ℕ) (x : (Sh 16).Idx) :
    scan (d := ![16]) .sum (arr 16 fun k => BitVec.ofNat 32 (u k)) x
      = BitVec.ofNat 32 (∑ k ∈ Finset.range ((x 0).val + 1), u k) := by
  have hx := idx_lt x
  refine (foldl_addi (fun k : Fin (![16] 0) => u k.val) _ _).trans ?_
  rw [Finset.sum_range_succ', Nat.add_comm, BitVec.ofNat_add]
  show BitVec.ofNat 32 (u 0) + _ = _
  congr 2
  have : ∀ j : Fin 16, ((List.finRange 16).filter fun k => decide (0 < k.val ∧ k.val ≤ j.val)).map (fun k => u k.val)
      = ((List.range j.val).map fun i => i + 1).map u := by
    have hl : ∀ j : Fin 16, ((List.finRange 16).filter fun k => decide (0 < k.val ∧ k.val ≤ j.val)).map (fun k => k.val)
        = (List.range j.val).map fun i => i + 1 := by decide
    intro j
    rw [← hl j, List.map_map]; rfl
  refine (congrArg List.sum (this (x 0))).trans ?_
  rw [List.map_map]
  generalize (x 0).val = j
  show ((List.range j).map fun i => u (i + 1)).sum = _
  induction j with
  | zero => rfl
  | succ j ih => rw [List.range_succ, List.map_append, List.sum_append, ih, Finset.sum_range_succ]; simp

end Cert.Proof
-- ==== Proof.Base.lean ====
/-
  The kernel's program as the SparseCore launch theorem sees it, and a vector subcore's scratch array as a resource: the
  array owned whole at known contents, with the rules of the four accesses the kernel makes of it (a window of sixteen
  loaded or stored, an indexed load, an indexed store).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Words

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

variable [FloatOps F]

/-! ## A scratch array at known contents -/

section Own

variable {a : Fin τ.nSC} {b : Fin τ.nSub} (d : Dev nD) {n : ℕ} {e : EltTy} {α : Type}

/-- The array behind `m`, owned whole on vector subcore `(a, b)` of device `d`, reading `g`. -/
def own (d : Dev nD) (a : Fin τ.nSC) (b : Fin τ.nSub) (m : Memref sig .scVector .vmem (Sh n) e) (g : (Sh n).Idx → Elt F e) : sProp 𝕄 :=
  iprop(∃ f : Buf (Elt F) (m.view.loc (V d a b)), ⌜m.view.read (Elt F) f = g⌝ ∗ (m.view.loc (V d a b) ↦[m.view.set]{fullShare} f))

variable {m : Memref sig .scVector .vmem (Sh n) e}

/-- A window of sixteen elements from `o` on is loaded. -/
theorem own_load {off : Fin 1 → ℕ} {hin : ∀ x, off x + S16.size x ≤ (Sh n).size x}
    {hl : m.view.LoadsAt (Rect.unit (s := Sh n) off S16.size hin).toLoadRect} {G : ℕ → Elt F e}
    {k : Vec F S16 e → Prog (TpuEff nD τ sig (Elt F) Λ₀ (.scVector a b)) α} {Q : α → sProp 𝕄} (o : ℕ) (ho : off 0 = o) :
    own d a b m (arr n G)
      ⊢ iprop((own d a b m (arr n G) -∗ wp frame (wpE (defs₀ (F := F)) 𝒱₀ (V d a b) none) Set.univ (k (arr 16 fun l => G (o + l))) Q)
        -∗ wp frame (wpE (defs₀ (F := F)) 𝒱₀ (V d a b) none) Set.univ
            (Prog.lift (.load m (Rect.unit (s := Sh n) off S16.size hin).toLoadRect hl) >>= k) Q) := by
  unfold own
  iintro ⟨%f, %hf, H⟩ Hk
  have hr : m.view.readAt (Elt F) (Rect.unit (s := Sh n) off S16.size hin).toLoadRect f = arr 16 fun l => G (o + l) := by
    funext x
    rw [View.readAt_apply, hf]
    show G (off 0 + 1 * (x 0).val) = G (o + (x 0).val)
    rw [ho, Nat.one_mul]
  rw [show (Prog.lift (.load m (Rect.unit (s := Sh n) off S16.size hin).toLoadRect hl) >>= k)
    = (.op (.load m (Rect.unit (s := Sh n) off S16.size hin).toLoadRect hl) k : Prog (TpuEff nD τ sig (Elt F) Λ₀ (.scVector a b)) α) from rfl]
  iapply (wp_load 𝒱₀ (V d a b) none Set.univ (m := m) (f := f) (S := m.view.set) (q := fullShare) (k := k) (hl := hl)
    (View.setOn_subset_set _ _)) $$ H
  iintro H
  rw [hr]
  iapply Hk
  iexists f
  isplitr
  · ipureintro; exact hf
  · iexact H

/-- A window of sixteen elements from `o` on is stored. -/
theorem own_store {off : Fin 1 → ℕ} {hin : ∀ x, off x + S16.size x ≤ (Sh n).size x} {w : Vec F S16 e}
    {hx : (m.access (Rect.unit (s := Sh n) off S16.size hin)).Stores Finset.univ} {hm}
    {G : ℕ → Elt F e} (G' : ℕ → Elt F e)
    {k : PUnit → Prog (TpuEff nD τ sig (Elt F) Λ₀ (.scVector a b)) α} {Q : α → sProp 𝕄} (o : ℕ) (ho : off 0 = o)
    (hw : ∀ x : S16.Idx, G' (o + (x 0).val) = w x) (hk : ∀ p < n, (p < o ∨ o + 16 ≤ p) → G' p = G p) :
    own d a b m (arr n G)
      ⊢ iprop((own d a b m (arr n G') -∗ wp frame (wpE (defs₀ (F := F)) 𝒱₀ (V d a b) none) Set.univ (k ⟨⟩) Q)
        -∗ wp frame (wpE (defs₀ (F := F)) 𝒱₀ (V d a b) none) Set.univ
            (Prog.lift (.store m (Rect.unit (s := Sh n) off S16.size hin) w Finset.univ hx hm) >>= k) Q) := by
  unfold own
  iintro ⟨%f, %hf, H⟩ Hk
  have hr : m.view.read (Elt F) ((m.access (Rect.unit (s := Sh n) off S16.size hin)).write (Elt F) f w Finset.univ) = arr n G' := by
    funext y
    by_cases hy : y ∈ (Rect.unit (s := Sh n) off S16.size hin).set
    · obtain ⟨x, rfl⟩ : ∃ x, (Rect.unit (s := Sh n) off S16.size hin).emb x = y := by
        rw [← Rect.map_emb_univ, Finset.mem_map] at hy
        obtain ⟨x, -, hx⟩ := hy
        exact ⟨x, hx⟩
      rw [View.read_slice_write_emb _ _ _ (Finset.mem_univ x), ← hw x]
      show _ = G' (off 0 + 1 * (x 0).val)
      rw [ho, Nat.one_mul]
    · rw [View.read_slice_write_of_not_mem _ _ _ _ (by rw [Rect.map_emb_univ]; exact hy), hf]
      refine (hk _ (idx_lt y) ?_).symm
      by_contra hcon
      refine hy (Rect.mem_set_unit.2 fun z => ?_)
      rw [Fin.eq_zero z, ho]
      show o ≤ (y 0).val ∧ (y 0).val < o + 16
      omega
  rw [show (Prog.lift (.store m (Rect.unit (s := Sh n) off S16.size hin) w Finset.univ hx hm) >>= k)
    = (.op (.store m (Rect.unit (s := Sh n) off S16.size hin) w Finset.univ hx hm) k : Prog (TpuEff nD τ sig (Elt F) Λ₀ (.scVector a b)) α) from rfl]
  iapply (wp_store 𝒱₀ (V d a b) none Set.univ (m := m) (f := f) (S := m.view.set) (k := k) (hx := hx) (hm := hm)
    (View.set_slice_subset m.view (Rect.unit (s := Sh n) off S16.size hin))) $$ H
  iintro H
  iapply Hk
  iexists _
  isplitr
  · ipureintro; exact hr
  · iexact H

/-- An indexed load. -/
theorem own_loadIdx {idxs : Fin (Sh n).rank → IVec S16 32} {h : ∀ x y, (idxs x y).toNat < (Sh n).size x} {hl : m.view.Loads}
    {g : (Sh n).Idx → Elt F e} {k : Vec F S16 e → Prog (TpuEff nD τ sig (Elt F) Λ₀ (.scVector a b)) α} {Q : α → sProp 𝕄} :
    own d a b m g
      ⊢ iprop((own d a b m g -∗ wp frame (wpE (defs₀ (F := F)) 𝒱₀ (V d a b) none) Set.univ (k (loadIdx (F := F) (e := e) g idxs h)) Q)
        -∗ wp frame (wpE (defs₀ (F := F)) 𝒱₀ (V d a b) none) Set.univ (SparseCore.vectorLoadIdx m idxs h hl >>= k) Q) := by
  unfold own
  iintro ⟨%f, %hf, H⟩ Hk
  have hr : (m.access (.whole (Sh n))).read (Elt F) f = g := by
    rw [← hf]; funext x
    show m.view.read (Elt F) f ((Rect.whole (Sh n)).emb x) = _
    rw [Rect.emb_whole_apply]
  iapply (SparseCore.wp_vectorLoadIdx (defs := defs₀ (F := F)) 𝒱₀ (V d a b) none Set.univ (base := m) (f := f) (S := m.view.set)
    (q := fullShare) (k := k) (h := h) (hl := hl) (View.set_slice_subset m.view (.whole (Sh n)))) $$ H
  iintro H
  rw [hr]
  iapply Hk
  iexists f
  isplitr
  · ipureintro; exact hf
  · iexact H

/-- An indexed store. -/
theorem own_storeIdx {idxs : Fin (Sh n).rank → IVec S16 32} {v : Vec F S16 e} {mask : IVec S16 1} {add : Bool}
    {h : ∀ x y, (idxs x y).toNat < (Sh n).size x} {hs : (m.access (.whole (Sh n))).Stores Finset.univ}
    {g : (Sh n).Idx → Elt F e} (g' : (Sh n).Idx → Elt F e) (hg : storeIdx (F := F) (e := e) (d := ![16]) g idxs v mask add h = g')
    {k : PUnit → Prog (TpuEff nD τ sig (Elt F) Λ₀ (.scVector a b)) α} {Q : α → sProp 𝕄} :
    own d a b m g
      ⊢ iprop((own d a b m g' -∗ wp frame (wpE (defs₀ (F := F)) 𝒱₀ (V d a b) none) Set.univ (k ⟨⟩) Q)
        -∗ wp frame (wpE (defs₀ (F := F)) 𝒱₀ (V d a b) none) Set.univ (SparseCore.vectorStoreIdx m idxs v mask add h hs >>= k) Q) := by
  unfold own
  iintro ⟨%f, %hf, H⟩ Hk
  have hr : (m.access (.whole (Sh n))).read (Elt F) f = g := by
    rw [← hf]; funext x
    show m.view.read (Elt F) f ((Rect.whole (Sh n)).emb x) = _
    rw [Rect.emb_whole_apply]
  have hset : (m.access (.whole (Sh n))).set = m.view.set := by
    rw [View.set_slice, Rect.set_whole]; rfl
  have hw : m.view.read (Elt F) ((m.access (.whole (Sh n))).write (Elt F) f (storeIdx (F := F) (e := e) (d := ![16]) g idxs v mask add h) Finset.univ) = g' := by
    rw [← hg]; funext x
    have := View.read_slice_write_emb (v := m.view) (Val := Elt F) (Rect.whole (Sh n)) f
      (storeIdx (F := F) (e := e) (d := ![16]) g idxs v mask add h) (Finset.mem_univ x)
    rwa [Rect.emb_whole_apply] at this
  ihave H' := (Entails.of_eq (show ((m.view.loc (V d a b) ↦[m.view.set]{fullShare} f) : sProp 𝕄)
      = ((m.access (.whole (Sh n))).loc (V d a b) ↦[(m.access (.whole (Sh n))).set]{fullShare} f) by rw [hset])) $$ H
  iapply (SparseCore.wp_vectorStoreIdx (defs := defs₀ (F := F)) 𝒱₀ (V d a b) none Set.univ (base := m) (f := f)
    (k := k) (h := h) (hs := hs)) $$ H'
  iintro H
  rw [hr]
  iapply Hk
  iexists _
  isplitr
  · ipureintro; exact hw
  · iapply (Entails.of_eq (show ((m.access (.whole (Sh n))).loc (V d a b) ↦[(m.access (.whole (Sh n))).set]{fullShare} _ : sProp 𝕄)
      = (m.view.loc (V d a b) ↦[m.view.set]{fullShare} _) by rw [hset])); iexact H

end Own

end Cert.Proof
-- ==== Proof.Tables.lean ====
/-
  The tables of the kernel's counting sort as functions of how far each of its five streams has come: the histogram,
  its prefix sums, the running positions, and the arrays an ordering pass moves; and how each changes when one stream
  takes its next sixteen positions. A table entry `640 * k + b` belongs to stream `k` and key `b`; stream `k` reads the
  positions from `4000 * k` up to `4000 * (k + 1)`.
-/
module

public import proofs.«01_k».proof.Proof.Words

@[expose] public section

namespace Cert.Proof

open Idealize.ShloMosaic

variable {F : FTy → Type}

/-- The words of a key array. -/
def kw (key : ℕ → ℕ) : ℕ → BitVec 32 := fun p => BitVec.ofNat 32 (key p)

/-- The histogram once stream `k` has counted its positions below `pos k`. -/
def histW (key : ℕ → ℕ) (pos : ℕ → ℕ) : ℕ → BitVec 32 := fun y =>
  BitVec.ofNat 32 (cnt key (4000 * (y / 640)) (pos (y / 640)) (y % 640))

/-- The table of running positions once stream `k` has moved its positions below `pos k`. -/
def passW (key : ℕ → ℕ) (pos : ℕ → ℕ) : ℕ → BitVec 32 := fun y =>
  BitVec.ofNat 32 (less 20000 key (y % 640) + cnt key 0 (pos (y / 640)) (y % 640))

/-- A destination array once stream `k` has moved its positions below `pos k`: `val` at their ranks, elsewhere as it was. -/
noncomputable def moved {α : Type} (key : ℕ → ℕ) (pos : ℕ → ℕ) (val old : ℕ → α) : ℕ → α := fun p =>
  if unrank 20000 key p < pos (unrank 20000 key p / 4000) then val (unrank 20000 key p) else old p

/-- The table during the prefix sums: keys below `16 * i` are done, and of the next sixteen keys the first `j` streams. -/
def scanW (key : ℕ → ℕ) (i j : ℕ) : ℕ → BitVec 32 := fun y =>
  if y % 640 < 16 * i ∨ (y % 640 < 16 * (i + 1) ∧ y / 640 < j) then
    BitVec.ofNat 32 (less 20000 key (y % 640) + cnt key 0 (4000 * (y / 640)) (y % 640))
  else BitVec.ofNat 32 (cnt key (4000 * (y / 640)) (4000 * (y / 640 + 1)) (y % 640))

/-- An array whose entries below `16 * i` are cleared. -/
def zeroW (i : ℕ) (G : ℕ → BitVec 32) : ℕ → BitVec 32 := fun p => if p < 16 * i then 0#32 else G p

/-- Stream `k` has taken the sixteen positions from `o` on, and no other stream any. -/
structure Took (pos pos' : ℕ → ℕ) (k o : ℕ) : Prop where
  lt : k < 5
  at_ : pos k = o
  dst : pos' k = o + 16
  lo : 4000 * k ≤ o
  hi : o + 16 ≤ 4000 * (k + 1)
  else_ : ∀ k', k' ≠ k → pos' k' = pos k'

/-- How far each stream has come after `i` trips, and the first `j` streams' step of the next. -/
def posAt (i j : ℕ) : ℕ → ℕ := fun k => if k < 5 then 4000 * k + 16 * (if k < j then i + 1 else i) else 4000 * k

theorem posAt_took {i j : ℕ} (hi : i < 250) (hj : j < 5) : Took (posAt i j) (posAt i (j + 1)) j (4000 * j + 16 * i) where
  lt := hj
  at_ := by unfold posAt; rw [if_pos hj, if_neg (by omega)]
  dst := by unfold posAt; rw [if_pos hj, if_pos (by omega)]; omega
  lo := by omega
  hi := by omega
  else_ k' h := by
    unfold posAt
    by_cases h5 : k' < 5
    · rw [if_pos h5, if_pos h5]
      by_cases hl : k' < j
      · rw [if_pos hl, if_pos (by omega)]
      · rw [if_neg hl, if_neg (by omega)]
    · rw [if_neg h5, if_neg h5]

theorem posAt_next (i : ℕ) : posAt i 5 = posAt (i + 1) 0 := by
  funext k
  unfold posAt
  by_cases h5 : k < 5
  · rw [if_pos h5, if_pos h5, if_pos h5, if_neg (by omega)]
  · rw [if_neg h5, if_neg h5]

theorem posAt_first (k : ℕ) : posAt 0 0 k = 4000 * k := by
  unfold posAt; rw [if_neg (Nat.not_lt_zero k), Nat.mul_zero, Nat.add_zero, ite_self]

theorem posAt_last (k : ℕ) (hk : k < 5) : posAt 250 0 k = 4000 * (k + 1) := by
  unfold posAt; rw [if_pos hk, if_neg (by omega)]; omega

section
variable {key : ℕ → ℕ} {pos pos' : ℕ → ℕ} {k o : ℕ}

/-- A stream's index vector into the table. -/
theorem table_index (hkey : ∀ p, key p < 640) (h : k < 5) (x : (Sh 16).Idx) :
    (addi (arr 16 fun l => kw key (o + l)) (broadcast (Sh 16) (BitVec.ofNat 32 (640 * k))) x).toNat = key (o + (x 0).val) + 640 * k := by
  show (BitVec.ofNat 32 (key (o + (x 0).val)) + BitVec.ofNat 32 (640 * k)).toNat = _
  have := hkey (o + (x 0).val)
  rw [← BitVec.ofNat_add, word_toNat (by omega)]

/-- The histogram takes a vector of sixteen keys. -/
theorem histW_took (hkey : ∀ p, key p < 640) (h : Took pos pos' k o) (ix : IVec (Sh 16) 32)
    (hix : ∀ x, (ix x).toNat = key (o + (x 0).val) + 640 * k) (y : ℕ) :
    histW key pos y + BitVec.ofNat 32 ((Finset.univ.filter fun x : (Sh 16).Idx => (ix x).toNat = y).card) = histW key pos' y := by
  unfold histW
  rw [← BitVec.ofNat_add]
  congr 1
  by_cases hy : y / 640 = k
  · rw [hy, h.at_, h.dst, cnt_add key (lo := 4000 * k) (mid := o) (hi := o + 16) _ h.lo (by omega)]
    congr 1
    rw [cnt, ← card_idx 16 o fun p => key p = y % 640]
    congr 1
    ext x
    simp only [Finset.mem_filter, Finset.mem_univ, true_and, hix]
    omega
  · rw [h.else_ _ hy]
    rw [Finset.card_eq_zero.2, Nat.add_zero]
    rw [Finset.filter_eq_empty_iff]
    intro x _
    rw [hix]
    have := hkey (o + (x 0).val)
    omega

/-- What an indexed load of the running positions reads. -/
theorem passW_at (h : Took pos pos' k o) (hkey : ∀ p, key p < 640) (p : ℕ) :
    passW key pos (key p + 640 * k) = BitVec.ofNat 32 (less 20000 key (key p) + cnt key 0 o (key p)) := by
  have := hkey p
  unfold passW
  rw [show (key p + 640 * k) / 640 = k by omega, show (key p + 640 * k) % 640 = key p by omega, h.at_]

/-- A table value plus the running occurrence count is the rank, plus one. -/
theorem base_add_count (l : ℕ) :
    (BitVec.ofNat 32 (less 20000 key (key (o + l)) + cnt key 0 o (key (o + l))) : BitVec 32) + BitVec.ofNat 32 (cnt key o (o + l + 1) (key (o + l)))
      = BitVec.ofNat 32 (rank 20000 key (o + l) + 1) := by
  rw [← BitVec.ofNat_add]
  congr 1
  unfold rank
  rw [Nat.add_assoc, ← cnt_add key _ (by omega) (by omega), cnt_add key (lo := 0) (mid := o + l) _ (by omega) (by omega)]
  have : cnt key (o + l) (o + l + 1) (key (o + l)) = 1 := by
    unfold cnt; rw [Nat.Ico_succ_singleton, Finset.filter_singleton, if_pos rfl]; rfl
  omega

/-- The positions a vector of sixteen keys moves to. -/
theorem dest_index (h : Took pos pos' k o) (base counts : IVec (Sh 16) 32)
    (hb : ∀ x, base x = BitVec.ofNat 32 (less 20000 key (key (o + (x 0).val)) + cnt key 0 o (key (o + (x 0).val))))
    (hc : ∀ x, counts x = BitVec.ofNat 32 (cnt key o (o + (x 0).val + 1) (key (o + (x 0).val)))) (x : (Sh 16).Idx) :
    (subi (addi base counts) (broadcast (Sh 16) 1#32) x).toNat = rank 20000 key (o + (x 0).val) := by
  show ((base x + counts x) - 1#32).toNat = _
  have hx := idx_lt x
  have h1 := h.hi
  have h2 := h.lt
  have h3 := rank_lt (n := 20000) key (e := o + (x 0).val) (by omega)
  rw [hb, hc, base_add_count, BitVec.ofNat_add, BitVec.add_sub_cancel, word_toNat (by omega)]

/-- Sixteen elements move to their ranks. -/
theorem moved_in {α : Type} (val old : ℕ → α) (h : Took pos pos' k o) (p : ℕ) (l : ℕ) (hl : l < 16)
    (hp : p = rank 20000 key (o + l)) : moved key pos' val old p = val (o + l) := by
  have h1 := h.hi
  have h0 := h.lo
  have h2 := h.lt
  have hu : unrank 20000 key p = o + l := unrank_eq (by omega) hp.symm
  unfold moved
  rw [hu, show (o + l) / 4000 = k by omega, h.dst, if_pos (by omega)]

/-- The other elements stay. -/
theorem moved_out {α : Type} (val old : ℕ → α) (h : Took pos pos' k o) (p : ℕ) (hp : p < 20000)
    (hne : ∀ l < 16, p ≠ rank 20000 key (o + l)) : moved key pos' val old p = moved key pos val old p := by
  have h1 := h.hi
  have h0 := h.lo
  have hr := rank_unrank key hp
  unfold moved
  generalize hu : unrank 20000 key p = u at hr ⊢
  by_cases hk : u / 4000 = k
  · have : ¬ (o ≤ u ∧ u < o + 16) := fun hh => hne (u - o) (by omega) (by rw [show o + (u - o) = u by omega, hr])
    rw [hk, h.dst, h.at_]
    by_cases hlt : u < o
    · rw [if_pos (by omega), if_pos hlt]
    · rw [if_neg (by omega), if_neg hlt]
  · rw [h.else_ _ hk]

/-- The last lane of each key stores the key's new running position. -/
theorem passW_in (hkey : ∀ p, key p < 640) (h : Took pos pos' k o) (l y : ℕ) (hl : l < 16)
    (hlast : ∀ p, o + l < p → p < o + 16 → key p ≠ key (o + l)) (hy : y = key (o + l) + 640 * k) :
    passW key pos' y = BitVec.ofNat 32 (rank 20000 key (o + l) + 1) := by
  have hk := hkey (o + l)
  unfold passW
  rw [hy, show (key (o + l) + 640 * k) / 640 = k by omega, show (key (o + l) + 640 * k) % 640 = key (o + l) by omega, h.dst,
    ← base_add_count, ← BitVec.ofNat_add]
  refine congrArg _ ?_
  rw [Nat.add_assoc, ← cnt_add key _ (by omega) (by omega), cnt_add key (lo := 0) (mid := o + l + 1) (hi := o + 16) _ (by omega) (by omega)]
  have : cnt key (o + l + 1) (o + 16) (key (o + l)) = 0 := by
    unfold cnt
    rw [Finset.card_eq_zero, Finset.filter_eq_empty_iff]
    intro p hp
    rw [Finset.mem_Ico] at hp
    exact hlast p (by omega) (by omega)
  omega

/-- The other entries stay. -/
theorem passW_out (h : Took pos pos' k o) (y : ℕ)
    (hne : ∀ l < 16, (∀ p, o + l < p → p < o + 16 → key p ≠ key (o + l)) → y ≠ key (o + l) + 640 * k) :
    passW key pos' y = passW key pos y := by
  unfold passW
  by_cases hy : y / 640 = k
  · rw [hy, h.dst, h.at_, cnt_add key (lo := 0) (mid := o) (hi := o + 16) _ (by omega) (by omega)]
    have : cnt key o (o + 16) (y % 640) = 0 := by
      by_contra hcon
      have hex : ∃ p, p ∈ (Finset.Ico o (o + 16)).filter fun e => key e = y % 640 :=
        Finset.card_pos.1 (Nat.pos_of_ne_zero hcon)
      have hne' : ((Finset.Ico o (o + 16)).filter fun e => key e = y % 640).Nonempty := hex
      let q := Finset.max' _ hne'
      have hq : q ∈ (Finset.Ico o (o + 16)).filter fun e => key e = y % 640 := Finset.max'_mem _ _
      have hmax : ∀ p ∈ (Finset.Ico o (o + 16)).filter fun e => key e = y % 640, p ≤ q := fun p hp => Finset.le_max' _ _ hp
      rw [Finset.mem_filter, Finset.mem_Ico] at hq
      refine hne (q - o) (by omega) (fun p h1 h2 he => ?_) ?_
      · rw [show o + (q - o) = q by omega] at h1 he
        have := hmax p (Finset.mem_filter.2 ⟨Finset.mem_Ico.2 ⟨by omega, h2⟩, he.trans hq.2⟩)
        omega
      · rw [show o + (q - o) = q by omega, hq.2]
        omega
    rw [this, Nat.add_zero]
  · rw [h.else_ _ hy]

/-- Before the first position is counted the histogram is clear. -/
theorem histW_zero (hpos : ∀ k, pos k = 4000 * k) (y : ℕ) : histW key pos y = 0#32 := by
  unfold histW; rw [hpos, cnt_self]

/-- The whole histogram is the table the prefix sums start from. -/
theorem histW_full (hpos : ∀ k < 5, pos k = 4000 * (k + 1)) (y : ℕ) (hy : y < 3200) : histW key pos y = scanW key 0 0 y := by
  unfold histW scanW; rw [hpos _ (by omega), if_neg (by omega)]

/-- The finished prefix sums are the running positions an ordering pass starts from. -/
theorem scanW_full (hpos : ∀ k, pos k = 4000 * k) (y : ℕ) : scanW key 40 0 y = passW key pos y := by
  unfold scanW passW; rw [hpos, if_pos (by omega)]

/-- A trip of the prefix sums is done when its five streams are. -/
theorem scanW_next (i y : ℕ) (hy : y < 3200) : scanW key i 5 y = scanW key (i + 1) 0 y := by
  unfold scanW
  by_cases h : y % 640 < 16 * (i + 1)
  · rw [if_pos (by omega), if_pos (by omega)]
  · rw [if_neg (by omega), if_neg (by omega)]

/-- What trip `i` loads for stream `j`. -/
theorem scanW_load {i j b : ℕ} (hb : 16 * i ≤ b) (hb' : b < 640) : scanW key i 0 (640 * j + b) = BitVec.ofNat 32 (cnt key (4000 * j) (4000 * (j + 1)) b) := by
  unfold scanW
  rw [show (640 * j + b) / 640 = j by omega, show (640 * j + b) % 640 = b by omega, if_neg (by omega)]

/-- What trip `i` stores for stream `j`. -/
theorem scanW_in {i j b : ℕ} (hb : b < 16 * (i + 1)) (hb' : b < 640) :
    scanW key i (j + 1) (640 * j + b) = BitVec.ofNat 32 (less 20000 key b + cnt key 0 (4000 * j) b) := by
  unfold scanW
  rw [show (640 * j + b) / 640 = j by omega, show (640 * j + b) % 640 = b by omega, if_pos (by omega)]

/-- The rest of the table stays. -/
theorem scanW_out {i j y : ℕ} (hi : i < 40) (hy : y < 640 * j + 16 * i ∨ 640 * j + 16 * i + 16 ≤ y) :
    scanW key i (j + 1) y = scanW key i j y := by
  unfold scanW
  by_cases hj : y / 640 = j
  · by_cases h : y % 640 < 16 * i
    · rw [if_pos (by omega), if_pos (by omega)]
    · rw [if_neg (by omega), if_neg (by omega)]
  · by_cases h : y % 640 < 16 * i ∨ (y % 640 < 16 * (i + 1) ∧ y / 640 < j)
    · rw [if_pos h, if_pos (by omega)]
    · rw [if_neg h, if_neg (by omega)]

/-- The streams' counts of a key below stream `j` sum to its count below `4000 * j`. -/
theorem cnt_streams (b j : ℕ) :
    (BitVec.ofNat 32 (cnt key 0 (4000 * j) b) : BitVec 32) + BitVec.ofNat 32 (cnt key (4000 * j) (4000 * (j + 1)) b)
      = BitVec.ofNat 32 (cnt key 0 (4000 * (j + 1)) b) := by
  rw [← BitVec.ofNat_add, ← cnt_add key _ (by omega) (by omega)]

/-- The exclusive prefix sum of a trip's totals, plus what was carried into it. -/
theorem scan_excl (i : ℕ) (tot : IVec (Sh 16) 32) (c : BitVec 32) (hc : c = BitVec.ofNat 32 (less 20000 key (16 * i)))
    (ht : tot = arr 16 fun l => BitVec.ofNat 32 (cnt key 0 20000 (16 * i + l))) (x : (Sh 16).Idx) :
    addi (subi (scan .sum tot) tot) (broadcast (Sh 16) c) x = BitVec.ofNat 32 (less 20000 key (16 * i + (x 0).val)) := by
  show (scan .sum tot x - tot x) + c = _
  rw [ht, scan_sum, hc, arr_apply, Finset.sum_range_succ, BitVec.ofNat_add, BitVec.add_sub_cancel, less_add, BitVec.ofNat_add, BitVec.add_comm]

/-- What a trip of the prefix sums carries on. -/
theorem scan_carry (i : ℕ) (tot : IVec (Sh 16) 32) (c : BitVec 32) (hc : c = BitVec.ofNat 32 (less 20000 key (16 * i)))
    (ht : tot = arr 16 fun l => BitVec.ofNat 32 (cnt key 0 20000 (16 * i + l))) (x : (Sh 16).Idx) (hx : (x 0).val = 15) :
    c + scan .sum tot x = BitVec.ofNat 32 (less 20000 key (16 * (i + 1))) := by
  rw [ht, scan_sum, hc, hx, ← BitVec.ofNat_add, ← less_add]; congr 2

/-- Before a pass starts nothing has moved. -/
theorem moved_zero {α : Type} (hpos : ∀ k, pos k = 4000 * k) (val old : ℕ → α) (p : ℕ) : moved key pos val old p = old p := by
  unfold moved; rw [hpos, if_neg (by omega)]

/-- After it everything has. -/
theorem moved_full {α : Type} (hpos : ∀ k < 5, pos k = 4000 * (k + 1)) (val old : ℕ → α) (p : ℕ) (hp : p < 20000) :
    moved key pos val old p = val (unrank 20000 key p) := by
  have := unrank_lt key hp
  unfold moved; rw [hpos _ (by omega), if_pos (by omega)]

end

end Cert.Proof
-- ==== Proof.Step.lean ====
/-
  One vector of sixteen keys of each of the kernel's loops — of an ordering pass, of a histogram, of the prefix sums, of
  the clearing — as a program over its scratch arrays, and what it does to them.
-/
module

public import proofs.«01_k».proof.Proof.Base
public import proofs.«01_k».proof.Proof.Tables

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section
variable {a : Fin τ.nSC} {b : Fin τ.nSub} (d : Dev nD)

/-- A side condition a program assumes, proved. -/
theorem own_assume {P : Prop} {dec : Decidable P} {α : Type} (h : P)
    {k : PLift P → Prog (TpuEff nD τ sig (Elt F) Λ₀ (.scVector a b)) α} {Q : α → sProp 𝕄} :
    wp frame (wpE (defs₀ (F := F)) 𝒱₀ (V d a b) none) Set.univ (k ⟨h⟩) Q
      ⊢ wp frame (wpE (defs₀ (F := F)) 𝒱₀ (V d a b) none) Set.univ (Prog.lift (TpuEff.assume P dec) >>= k) Q := by
  rw [show (Prog.lift (TpuEff.assume P dec) >>= k)
    = (.op (.assume P dec) k : Prog (TpuEff nD τ sig (Elt F) Λ₀ (.scVector a b)) α) from rfl]
  exact wp_assume 𝒱₀ (V d a b) none Set.univ h

/-- A bound on an index vector, of the vector. -/
theorem lt_of_vec {n : ℕ} {v : IVec (Sh 16) 32} (h : ∀ x, (v x).toNat < n) (x : Fin 1) (y : (Sh 16).Idx) :
    ((![v] : Fin 1 → IVec (Sh 16) 32) x y).toNat < (Sh n).size x := by
  rw [Fin.eq_zero x]; exact h y

/-- An ordering pass's step over one vector of keys: their running positions are looked up, the three elements of each key are
    stored where it goes, and each key's running position is stored back by its last lane. -/
def passStep (mk mx : Memref sig .scVector .vmem (Sh 20000) .i32) (mz : Memref sig .scVector .vmem (Sh 20000) .f32)
    (d1 d2 : Memref sig .scVector .vmem (Sh 20000) .i32) (d3 : Memref sig .scVector .vmem (Sh 20000) .f32)
    (mc : Memref sig .scVector .vmem (Sh 3200) .i32)
    (off : Fin 1 → ℕ) (hin : ∀ x, off x + S16.size x ≤ (Sh 20000).size x) (K : BitVec 32)
    (f1 f2 : IVec S16 32 → IVec S16 32 → IVec S16 32)
    (C1 C2 : IVec S16 32 → Prop) (dec1 : ∀ v, Decidable (C1 v)) (dec2 : ∀ v, Decidable (C2 v))
    (h1 : ∀ v, C1 v → ∀ x y, ((![v] : Fin 1 → IVec S16 32) x y).toNat < (Sh 3200).size x)
    (h2 : ∀ v, C2 v → ∀ x y, ((![v] : Fin 1 → IVec S16 32) x y).toNat < (Sh 20000).size x) :
    Prog (TpuEff nD τ sig (Elt F) Λ₀ (.scVector a b)) PUnit := do
  let v : Vec F S16 .i32 ← Prog.lift (.load mk (Rect.unit (s := Sh 20000) off S16.size hin).toLoadRect (View.loadsAt_vmem h_S16))
  let x : Vec F S16 .i32 ← Prog.lift (.load mx (Rect.unit (s := Sh 20000) off S16.size hin).toLoadRect (View.loadsAt_vmem h_S16))
  let z : Vec F S16 .f32 ← Prog.lift (.load mz (Rect.unit (s := Sh 20000) off S16.size hin).toLoadRect (View.loadsAt_vmem h_S16))
  let p1 ← Prog.lift (TpuEff.assume (C1 (addi v (broadcast S16 K))) (dec1 (addi v (broadcast S16 K))))
  let base : Vec F S16 .i32 ← SparseCore.vectorLoadIdx mc ![addi v (broadcast S16 K)] (h1 _ p1.down) (View.loads_vmem h_S3200)
  let p2 ← Prog.lift (TpuEff.assume (C2 (subi (addi base (scanCount (broadcast S16 1#1) v).2) (broadcast S16 1#32)))
    (dec2 (subi (addi base (scanCount (broadcast S16 1#1) v).2) (broadcast S16 1#32))))
  SparseCore.vectorStoreIdx d1 ![subi (addi base (scanCount (broadcast S16 1#1) v).2) (broadcast S16 1#32)] (f1 v x) (fun _ => 1#1) false
    (h2 _ p2.down) (View.stores_vmem_bits_univ h_S20000 rfl)
  SparseCore.vectorStoreIdx d2 ![subi (addi base (scanCount (broadcast S16 1#1) v).2) (broadcast S16 1#32)] (f2 v x) (fun _ => 1#1) false
    (h2 _ p2.down) (View.stores_vmem_bits_univ h_S20000 rfl)
  SparseCore.vectorStoreIdx d3 ![subi (addi base (scanCount (broadcast S16 1#1) v).2) (broadcast S16 1#32)] z (fun _ => 1#1) false
    (h2 _ p2.down) (View.stores_vmem_bits_univ h_S20000 rfl)
  SparseCore.vectorStoreIdx mc ![addi v (broadcast S16 K)] (addi base (scanCount (broadcast S16 1#1) v).2) (scanCount (broadcast S16 1#1) v).1 false
    (h1 _ p1.down) (View.stores_vmem_bits_univ h_S3200 rfl)
  pure ⟨⟩

/-- What an ordering pass holds once stream `k` has moved its positions below `pos k`. -/
def passInv (mk mx : Memref sig .scVector .vmem (Sh 20000) .i32) (mz : Memref sig .scVector .vmem (Sh 20000) .f32)
    (d1 d2 : Memref sig .scVector .vmem (Sh 20000) .i32) (d3 : Memref sig .scVector .vmem (Sh 20000) .f32)
    (mc : Memref sig .scVector .vmem (Sh 3200) .i32)
    (key : ℕ → ℕ) (X : ℕ → BitVec 32) (Z : ℕ → F .f32) (V1 V2 O1 O2 : ℕ → BitVec 32) (O3 : ℕ → F .f32) (pos : ℕ → ℕ) : sProp 𝕄 :=
  iprop(own d a b mk (arr 20000 (kw key)) ∗ own d a b mx (arr 20000 X) ∗ own d a b mz (arr 20000 Z)
    ∗ own d a b d1 (arr 20000 (moved key pos V1 O1)) ∗ own d a b d2 (arr 20000 (moved key pos V2 O2))
    ∗ own d a b d3 (arr 20000 (moved key pos Z O3)) ∗ own d a b mc (arr 3200 (passW key pos)))

/-- The step of an ordering pass, by stream `k` at `o`. -/
theorem passStep_spec {mk mx : Memref sig .scVector .vmem (Sh 20000) .i32} {mz : Memref sig .scVector .vmem (Sh 20000) .f32}
    {d1 d2 : Memref sig .scVector .vmem (Sh 20000) .i32} {d3 : Memref sig .scVector .vmem (Sh 20000) .f32}
    {mc : Memref sig .scVector .vmem (Sh 3200) .i32}
    {off : Fin 1 → ℕ} {hin : ∀ x, off x + S16.size x ≤ (Sh 20000).size x} {K : BitVec 32}
    {f1 f2 : IVec S16 32 → IVec S16 32 → IVec S16 32}
    {C1 C2 : IVec S16 32 → Prop} {dec1 : ∀ v, Decidable (C1 v)} {dec2 : ∀ v, Decidable (C2 v)}
    {h1 : ∀ v, C1 v → ∀ x y, ((![v] : Fin 1 → IVec S16 32) x y).toNat < (Sh 3200).size x}
    {h2 : ∀ v, C2 v → ∀ x y, ((![v] : Fin 1 → IVec S16 32) x y).toNat < (Sh 20000).size x}
    (hc1 : ∀ v, (∀ x y, ((![v] : Fin 1 → IVec S16 32) x y).toNat < (Sh 3200).size x) → C1 v)
    (hc2 : ∀ v, (∀ x y, ((![v] : Fin 1 → IVec S16 32) x y).toNat < (Sh 20000).size x) → C2 v)
    {key : ℕ → ℕ} (hkey : ∀ p, key p < 640) {X : ℕ → BitVec 32} {Z : ℕ → F .f32} {V1 V2 O1 O2 : ℕ → BitVec 32} {O3 : ℕ → F .f32}
    {pos pos' : ℕ → ℕ} {k o : ℕ} (T : Took pos pos' k o) (ho : off 0 = o) (hK : K = BitVec.ofNat 32 (640 * k))
    (hf1 : f1 (arr 16 fun l => kw key (o + l)) (arr 16 fun l => X (o + l)) = arr 16 fun l => V1 (o + l))
    (hf2 : f2 (arr 16 fun l => kw key (o + l)) (arr 16 fun l => X (o + l)) = arr 16 fun l => V2 (o + l)) :
    passInv d (a := a) (b := b) mk mx mz d1 d2 d3 mc key X Z V1 V2 O1 O2 O3 pos
      ⊢ wp frame (wpE (defs₀ (F := F)) 𝒱₀ (V d a b) none) Set.univ
          (passStep mk mx mz d1 d2 d3 mc off hin K f1 f2 C1 C2 dec1 dec2 h1 h2)
          fun _ => passInv d (a := a) (b := b) mk mx mz d1 d2 d3 mc key X Z V1 V2 O1 O2 O3 pos' := by
  subst hK
  have hkey32 : ∀ p, key p < 2 ^ 32 := fun p => (hkey p).trans (by norm_num)
  have hix := table_index (o := o) hkey T.lt
  have hi1 : ∀ x y, ((![addi (arr 16 fun l => kw key (o + l)) (broadcast S16 (BitVec.ofNat 32 (640 * k)))] : Fin 1 → IVec S16 32) x y).toNat < (Sh 3200).size x :=
    lt_of_vec fun x => by rw [hix]; have := hkey (o + (x 0).val); have := T.lt; omega
  have hcnt : ∀ x, (scanCount (broadcast S16 1#1) (arr 16 fun l => kw key (o + l))).2 x = BitVec.ofNat 32 (cnt key o (o + (x 0).val + 1) (key (o + (x 0).val))) :=
    fun x => scanCount_snd key o hkey32 x
  have hbase : ∀ h x, (loadIdx (F := F) (e := .i32) (arr 3200 (passW key pos))
      ![addi (arr 16 fun l => kw key (o + l)) (broadcast S16 (BitVec.ofNat 32 (640 * k)))] h : Vec F S16 .i32) x
        = BitVec.ofNat 32 (less 20000 key (key (o + (x 0).val)) + cnt key 0 o (key (o + (x 0).val))) := by
    intro h x
    show passW key pos (addi (arr 16 fun l => kw key (o + l)) (broadcast S16 (BitVec.ofNat 32 (640 * k))) x).toNat = _
    rw [hix]
    exact passW_at T hkey _
  unfold passInv passStep
  iintro ⟨Hk, Hx, Hz, H1, H2, H3, Hc⟩
  iapply (own_load d o ho) $$ Hk; iintro Hk
  iapply (own_load d o ho) $$ Hx; iintro Hx
  iapply (own_load d o ho) $$ Hz; iintro Hz
  iapply (own_assume d (hc1 _ hi1))
  iapply (own_loadIdx d) $$ Hc; iintro Hc
  have hdst := dest_index T _ _ (hbase (h1 _ (hc1 _ hi1))) hcnt
  generalize hB : (loadIdx (F := F) (e := .i32) (arr 3200 (passW key pos))
      ![addi (arr 16 fun l => kw key (o + l)) (broadcast S16 (BitVec.ofNat 32 (640 * k)))] (h1 _ (hc1 _ hi1)) : Vec F S16 .i32) = B at hdst ⊢
  have hB' : ∀ x, B x = BitVec.ofNat 32 (less 20000 key (key (o + (x 0).val)) + cnt key 0 o (key (o + (x 0).val))) := fun x => by
    rw [← hB]; exact hbase _ x
  have hhi := T.hi
  have hlt := T.lt
  have hi2 : ∀ x y, ((![subi (addi B (scanCount (broadcast S16 1#1) (arr 16 fun l => kw key (o + l))).2) (broadcast S16 1#32)] : Fin 1 → IVec S16 32) x y).toNat
      < (Sh 20000).size x := lt_of_vec fun x => by
    rw [hdst]
    have := idx_lt x
    exact rank_lt key (by omega)
  iapply (own_assume d (hc2 _ hi2))
  have hst : ∀ {e : EltTy} (val old : ℕ → Elt F e) h, storeIdx (F := F) (e := e) (d := ![16]) (arr 20000 (moved key pos val old))
      ![subi (addi B (scanCount (broadcast S16 1#1) (arr 16 fun l => kw key (o + l))).2) (broadcast S16 1#32)] (arr 16 fun l => val (o + l)) (fun _ => 1#1) false h
        = arr 20000 (moved key pos' val old) := by
    intro e val old h
    refine storeIdx_false _ _ _ _ _ _ (fun x _ j hj => ?_) (fun j hj => ?_)
    · rw [hdst] at hj
      exact moved_in val old T _ _ (idx_lt x) hj
    · refine moved_out val old T _ (idx_lt j) fun l hl he => ?_
      refine hj (at' l hl) rfl ?_
      rw [hdst, at'_val]
      exact he
  iapply (own_storeIdx d (arr 20000 (moved key pos' V1 O1)) (by rw [hf1]; exact hst (e := .i32) V1 O1 _)) $$ H1; iintro H1
  iapply (own_storeIdx d (arr 20000 (moved key pos' V2 O2)) (by rw [hf2]; exact hst (e := .i32) V2 O2 _)) $$ H2; iintro H2
  iapply (own_storeIdx d (arr 20000 (moved key pos' Z O3)) (hst (e := .f32) Z O3 _)) $$ H3; iintro H3
  have hstc : ∀ h, storeIdx (F := F) (e := .i32) (d := ![16]) (arr 3200 (passW key pos))
      ![addi (arr 16 fun l => kw key (o + l)) (broadcast S16 (BitVec.ofNat 32 (640 * k)))]
      (addi B (scanCount (broadcast S16 1#1) (arr 16 fun l => kw key (o + l))).2)
      (scanCount (broadcast S16 1#1) (arr 16 fun l => kw key (o + l))).1 false h = arr 3200 (passW key pos') := by
    intro h
    refine storeIdx_false _ _ _ _ _ _ (fun x hx j hj => ?_) (fun j hj => ?_)
    · rw [hix] at hj
      have hl := (scanCount_fst key o hkey32 x).1 hx
      refine (passW_in hkey T _ _ (idx_lt x) hl hj).trans ?_
      show _ = B x + (scanCount (broadcast S16 1#1) (arr 16 fun l => kw key (o + l))).2 x
      rw [hB', hcnt, base_add_count]
    · refine passW_out T _ fun l hl hlast he => ?_
      refine hj (at' l hl) ((scanCount_fst key o hkey32 _).2 ?_) ?_
      · rw [at'_val]; exact hlast
      · rw [hix, at'_val]; exact he
  iapply (own_storeIdx d (arr 3200 (passW key pos')) (hstc _)) $$ Hc; iintro Hc
  rw [Sem.wp_pure]
  imodintro
  isplitl [Hk]; · iexact Hk
  isplitl [Hx]; · iexact Hx
  isplitl [Hz]; · iexact Hz
  isplitl [H1]; · iexact H1
  isplitl [H2]; · iexact H2
  isplitl [H3]; · iexact H3
  iexact Hc

/-- A histogram's step over one vector of keys: one is added to each key's entry. -/
def histStep (mk : Memref sig .scVector .vmem (Sh 20000) .i32) (mc : Memref sig .scVector .vmem (Sh 3200) .i32)
    (off : Fin 1 → ℕ) (hin : ∀ x, off x + S16.size x ≤ (Sh 20000).size x) (K : BitVec 32)
    (C1 : IVec S16 32 → Prop) (dec1 : ∀ v, Decidable (C1 v))
    (h1 : ∀ v, C1 v → ∀ x y, ((![v] : Fin 1 → IVec S16 32) x y).toNat < (Sh 3200).size x) :
    Prog (TpuEff nD τ sig (Elt F) Λ₀ (.scVector a b)) PUnit := do
  let v : Vec F S16 .i32 ← Prog.lift (.load mk (Rect.unit (s := Sh 20000) off S16.size hin).toLoadRect (View.loadsAt_vmem h_S16))
  let p1 ← Prog.lift (TpuEff.assume (C1 (addi v (broadcast S16 K))) (dec1 (addi v (broadcast S16 K))))
  SparseCore.vectorStoreIdx mc ![addi v (broadcast S16 K)] (broadcast S16 1#32 : IVec S16 32) (fun _ => 1#1) true
    (h1 _ p1.down) (View.stores_vmem_bits_univ h_S3200 rfl)
  pure ⟨⟩

/-- The step of a histogram, by stream `k` at `o`. -/
theorem histStep_spec {mk : Memref sig .scVector .vmem (Sh 20000) .i32} {mc : Memref sig .scVector .vmem (Sh 3200) .i32}
    {off : Fin 1 → ℕ} {hin : ∀ x, off x + S16.size x ≤ (Sh 20000).size x} {K : BitVec 32}
    {C1 : IVec S16 32 → Prop} {dec1 : ∀ v, Decidable (C1 v)}
    {h1 : ∀ v, C1 v → ∀ x y, ((![v] : Fin 1 → IVec S16 32) x y).toNat < (Sh 3200).size x}
    (hc1 : ∀ v, (∀ x y, ((![v] : Fin 1 → IVec S16 32) x y).toNat < (Sh 3200).size x) → C1 v)
    {key : ℕ → ℕ} (hkey : ∀ p, key p < 640)
    {pos pos' : ℕ → ℕ} {k o : ℕ} (T : Took pos pos' k o) (ho : off 0 = o) (hK : K = BitVec.ofNat 32 (640 * k)) :
    iprop(own d a b mk (arr 20000 (kw key)) ∗ own d a b mc (arr 3200 (histW key pos)) : sProp 𝕄)
      ⊢ wp frame (wpE (defs₀ (F := F)) 𝒱₀ (V d a b) none) Set.univ (histStep mk mc off hin K C1 dec1 h1)
          fun _ => iprop(own d a b mk (arr 20000 (kw key)) ∗ own d a b mc (arr 3200 (histW key pos'))) := by
  subst hK
  have hix := table_index (o := o) hkey T.lt
  have hi1 : ∀ x y, ((![addi (arr 16 fun l => kw key (o + l)) (broadcast S16 (BitVec.ofNat 32 (640 * k)))] : Fin 1 → IVec S16 32) x y).toNat < (Sh 3200).size x :=
    lt_of_vec fun x => by rw [hix]; have := hkey (o + (x 0).val); have := T.lt; omega
  unfold histStep
  iintro ⟨Hk, Hc⟩
  iapply (own_load d o ho) $$ Hk; iintro Hk
  iapply (own_assume d (hc1 _ hi1))
  have hst : ∀ h, storeIdx (F := F) (e := .i32) (d := ![16]) (arr 3200 (histW key pos))
      ![addi (arr 16 fun l => kw key (o + l)) (broadcast S16 (BitVec.ofNat 32 (640 * k)))] (broadcast S16 1#32 : IVec S16 32) (fun _ => 1#1) true h
        = arr 3200 (histW key pos') := by
    intro h
    funext j
    refine (storeIdx_ones _ _ h j).trans ?_
    exact histW_took hkey T _ hix _
  iapply (own_storeIdx d (arr 3200 (histW key pos')) (hst _)) $$ Hc; iintro Hc
  rw [Sem.wp_pure]
  imodintro
  isplitl [Hk]; · iexact Hk
  iexact Hc

/-- The clearing of one vector of a table. -/
def zeroStep (mc : Memref sig .scVector .vmem (Sh 3200) .i32) (off : Fin 1 → ℕ) (hin : ∀ x, off x + S16.size x ≤ (Sh 3200).size x) :
    Prog (TpuEff nD τ sig (Elt F) Λ₀ (.scVector a b)) PUnit := do
  let _v : Vec F S16 .i32 ← Prog.lift (.load mc (Rect.unit (s := Sh 3200) off S16.size hin).toLoadRect (View.loadsAt_vmem h_S16))
  Prog.lift (.store mc (Rect.unit (s := Sh 3200) off S16.size hin) (broadcast S16 0#32 : IVec S16 32) Finset.univ (View.stores_vmem_bits_univ h_S16 rfl) (.inl rfl))
  pure ⟨⟩

/-- The clearing of a table's vector `i`. -/
theorem zeroStep_spec {mc : Memref sig .scVector .vmem (Sh 3200) .i32} {off : Fin 1 → ℕ} {hin : ∀ x, off x + S16.size x ≤ (Sh 3200).size x}
    {G : ℕ → BitVec 32} {i : ℕ} (ho : off 0 = 16 * i) :
    (own d a b mc (arr 3200 (zeroW i G)) : sProp 𝕄)
      ⊢ wp frame (wpE (defs₀ (F := F)) 𝒱₀ (V d a b) none) Set.univ (zeroStep mc off hin)
          fun _ => own d a b mc (arr 3200 (zeroW (i + 1) G)) := by
  unfold zeroStep
  iintro Hc
  iapply (own_load d (16 * i) ho) $$ Hc; iintro Hc
  iapply (own_store d (zeroW (i + 1) G) (16 * i) ho (fun x => ?_) (fun p _ hp => ?_)) $$ Hc
  · have := idx_lt x
    exact if_pos (by omega)
  · unfold zeroW
    by_cases h : p < 16 * i
    · rw [if_pos h, if_pos (by omega)]
    · rw [if_neg h, if_neg (by omega)]
  iintro Hc
  rw [Sem.wp_pure]
  imodintro
  iexact Hc

/-- What the prefix sums store for stream `j`. -/
theorem scan_store {key : ℕ → ℕ} (i j : ℕ) (hi : i < 40) (tot : IVec (Sh 16) 32) (c : BitVec 32) (hc : c = BitVec.ofNat 32 (less 20000 key (16 * i)))
    (ht : tot = arr 16 fun l => BitVec.ofNat 32 (cnt key 0 20000 (16 * i + l))) (x : (Sh 16).Idx) :
    scanW key i (j + 1) (640 * j + 16 * i + (x 0).val)
      = addi (addi (subi (scan .sum tot) tot) (broadcast (Sh 16) c)) (arr 16 fun l => BitVec.ofNat 32 (cnt key 0 (4000 * j) (16 * i + l))) x := by
  have := idx_lt x
  show _ = addi (subi (scan .sum tot) tot) (broadcast (Sh 16) c) x + BitVec.ofNat 32 (cnt key 0 (4000 * j) (16 * i + (x 0).val))
  rw [scan_excl i tot c hc ht, Nat.add_assoc, scanW_in (by omega) (by omega), BitVec.ofNat_add]

/-- A trip of the prefix sums: sixteen keys, five streams. -/
def scanTrip (mc : Memref sig .scVector .vmem (Sh 3200) .i32) (off : BitVec 32 → Fin 1 → ℕ)
    (h0 : ∀ x, off 0#32 x + S16.size x ≤ (Sh 3200).size x) (h1 : ∀ x, off 640#32 x + S16.size x ≤ (Sh 3200).size x)
    (h2 : ∀ x, off 1280#32 x + S16.size x ≤ (Sh 3200).size x) (h3 : ∀ x, off 1920#32 x + S16.size x ≤ (Sh 3200).size x)
    (h4 : ∀ x, off 2560#32 x + S16.size x ≤ (Sh 3200).size x) (c : BitVec 32) :
    Prog (TpuEff nD τ sig (Elt F) Λ₀ (.scVector a b)) (BitVec 32) := do
  let u0 : Vec F S16 .i32 ← Prog.lift (.load mc (Rect.unit (s := Sh 3200) (off 0#32) S16.size h0).toLoadRect (View.loadsAt_vmem h_S16))
  let u1 : Vec F S16 .i32 ← Prog.lift (.load mc (Rect.unit (s := Sh 3200) (off 640#32) S16.size h1).toLoadRect (View.loadsAt_vmem h_S16))
  let u2 : Vec F S16 .i32 ← Prog.lift (.load mc (Rect.unit (s := Sh 3200) (off 1280#32) S16.size h2).toLoadRect (View.loadsAt_vmem h_S16))
  let u3 : Vec F S16 .i32 ← Prog.lift (.load mc (Rect.unit (s := Sh 3200) (off 1920#32) S16.size h3).toLoadRect (View.loadsAt_vmem h_S16))
  let u4 : Vec F S16 .i32 ← Prog.lift (.load mc (Rect.unit (s := Sh 3200) (off 2560#32) S16.size h4).toLoadRect (View.loadsAt_vmem h_S16))
  let tot : IVec S16 32 := addi (addi (addi (addi (addi (broadcast S16 0#32) u0) u1) u2) u3) u4
  let base : IVec S16 32 := addi (subi (scan .sum tot) tot) (broadcast S16 c)
  let _v : Vec F S16 .i32 ← Prog.lift (.load mc (Rect.unit (s := Sh 3200) (off 0#32) S16.size h0).toLoadRect (View.loadsAt_vmem h_S16))
  Prog.lift (.store mc (Rect.unit (s := Sh 3200) (off 0#32) S16.size h0) (addi base (broadcast S16 0#32)) Finset.univ (View.stores_vmem_bits_univ h_S16 rfl) (.inl rfl))
  let _v : Vec F S16 .i32 ← Prog.lift (.load mc (Rect.unit (s := Sh 3200) (off 640#32) S16.size h1).toLoadRect (View.loadsAt_vmem h_S16))
  Prog.lift (.store mc (Rect.unit (s := Sh 3200) (off 640#32) S16.size h1) (addi base (addi (broadcast S16 0#32) u0)) Finset.univ (View.stores_vmem_bits_univ h_S16 rfl) (.inl rfl))
  let _v : Vec F S16 .i32 ← Prog.lift (.load mc (Rect.unit (s := Sh 3200) (off 1280#32) S16.size h2).toLoadRect (View.loadsAt_vmem h_S16))
  Prog.lift (.store mc (Rect.unit (s := Sh 3200) (off 1280#32) S16.size h2) (addi base (addi (addi (broadcast S16 0#32) u0) u1)) Finset.univ (View.stores_vmem_bits_univ h_S16 rfl) (.inl rfl))
  let _v : Vec F S16 .i32 ← Prog.lift (.load mc (Rect.unit (s := Sh 3200) (off 1920#32) S16.size h3).toLoadRect (View.loadsAt_vmem h_S16))
  Prog.lift (.store mc (Rect.unit (s := Sh 3200) (off 1920#32) S16.size h3) (addi base (addi (addi (addi (broadcast S16 0#32) u0) u1) u2)) Finset.univ (View.stores_vmem_bits_univ h_S16 rfl) (.inl rfl))
  let _v : Vec F S16 .i32 ← Prog.lift (.load mc (Rect.unit (s := Sh 3200) (off 2560#32) S16.size h4).toLoadRect (View.loadsAt_vmem h_S16))
  Prog.lift (.store mc (Rect.unit (s := Sh 3200) (off 2560#32) S16.size h4) (addi base (addi (addi (addi (addi (broadcast S16 0#32) u0) u1) u2) u3)) Finset.univ (View.stores_vmem_bits_univ h_S16 rfl) (.inl rfl))
  pure (Scalar.addi c (extractAt ![15] (scan .sum tot) inpos_S16_p15))

/-- Trip `i` of the prefix sums. -/
theorem scanTrip_spec {mc : Memref sig .scVector .vmem (Sh 3200) .i32} {off : BitVec 32 → Fin 1 → ℕ} {h0 h1 h2 h3 h4} {c : BitVec 32}
    {key : ℕ → ℕ} {i : ℕ} (hi : i < 40) (ho : ∀ j < 5, off (BitVec.ofNat 32 (640 * j)) 0 = 640 * j + 16 * i)
    (hc : c = BitVec.ofNat 32 (less 20000 key (16 * i))) :
    (own d a b mc (arr 3200 (scanW key i 0)) : sProp 𝕄)
      ⊢ wp frame (wpE (defs₀ (F := F)) 𝒱₀ (V d a b) none) Set.univ (scanTrip mc off h0 h1 h2 h3 h4 c)
          fun c' => iprop(⌜c' = BitVec.ofNat 32 (less 20000 key (16 * (i + 1)))⌝ ∗ own d a b mc (arr 3200 (scanW key (i + 1) 0))) := by
  have hu : ∀ j, (arr 16 fun l => scanW key i 0 (640 * j + 16 * i + l)) = arr 16 fun l => BitVec.ofNat 32 (cnt key (4000 * j) (4000 * (j + 1)) (16 * i + l)) := by
    intro j
    funext x
    have := idx_lt x
    rw [arr_apply, arr_apply, Nat.add_assoc, scanW_load (by omega) (by omega)]
  have hp0 : (broadcast S16 0#32 : IVec S16 32) = arr 16 fun l => BitVec.ofNat 32 (cnt key 0 (4000 * 0) (16 * i + l)) := by
    funext x; rw [arr_apply, Nat.mul_zero, cnt_self]; rfl
  have hps : ∀ j, (addi (arr 16 fun l => BitVec.ofNat 32 (cnt key 0 (4000 * j) (16 * i + l)))
      (arr 16 fun l => BitVec.ofNat 32 (cnt key (4000 * j) (4000 * (j + 1)) (16 * i + l))) : IVec S16 32)
        = arr 16 fun l => BitVec.ofNat 32 (cnt key 0 (4000 * (j + 1)) (16 * i + l)) := fun j => funext fun x => cnt_streams _ _
  have hst := fun j => scan_store (key := key) i j hi _ c hc rfl
  have hcy := scan_carry (key := key) i _ c hc rfl
  unfold scanTrip
  iintro Hc
  iapply (own_load d _ (ho 0 (by omega))) $$ Hc; iintro Hc
  iapply (own_load d _ (ho 1 (by omega))) $$ Hc; iintro Hc
  iapply (own_load d _ (ho 2 (by omega))) $$ Hc; iintro Hc
  iapply (own_load d _ (ho 3 (by omega))) $$ Hc; iintro Hc
  iapply (own_load d _ (ho 4 (by omega))) $$ Hc; iintro Hc
  simp only [hu, hp0, hps]
  iapply (own_load d _ (ho 0 (by omega))) $$ Hc; iintro Hc
  iapply (own_store d (scanW key i 1) _ (ho 0 (by omega)) (hst 0) (fun p _ hp => scanW_out hi hp)) $$ Hc; iintro Hc
  iapply (own_load d _ (ho 1 (by omega))) $$ Hc; iintro Hc
  iapply (own_store d (scanW key i 2) _ (ho 1 (by omega)) (hst 1) (fun p _ hp => scanW_out hi hp)) $$ Hc; iintro Hc
  iapply (own_load d _ (ho 2 (by omega))) $$ Hc; iintro Hc
  iapply (own_store d (scanW key i 3) _ (ho 2 (by omega)) (hst 2) (fun p _ hp => scanW_out hi hp)) $$ Hc; iintro Hc
  iapply (own_load d _ (ho 3 (by omega))) $$ Hc; iintro Hc
  iapply (own_store d (scanW key i 4) _ (ho 3 (by omega)) (hst 3) (fun p _ hp => scanW_out hi hp)) $$ Hc; iintro Hc
  iapply (own_load d _ (ho 4 (by omega))) $$ Hc; iintro Hc
  iapply (own_store d (scanW key i 5) _ (ho 4 (by omega)) (hst 4) (fun p _ hp => scanW_out hi hp)) $$ Hc; iintro Hc
  rw [Sem.wp_pure, arr_congr (G := scanW key i 5) (G' := scanW key (i + 1) 0) fun p hp => scanW_next i p hp]
  imodintro
  isplitr
  · ipureintro
    exact hcy _ rfl
  · iexact Hc

end

end Cert.Proof
-- ==== Proof.Loops.lean ====
/-
  The kernel's seven counted loops: each region is its five steps (one per stream), and each loop takes its tables and arrays
  from where they were to where they end.
-/
module

public import proofs.«01_k».proof.Proof.Step

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The offset of trip `t`'s window, in words. -/
theorem off_word (C t : ℕ) (h : C + 16 * t < 2 ^ 32) :
    (BitVec.ofNat 32 C + (0#32 + BitVec.ofNat 32 t * 1#32) * 16#32).toNat = C + 16 * t := by
  rw [BitVec.zero_add, BitVec.mul_one, ← BitVec.ofNat_mul, ← BitVec.ofNat_add, word_toNat (by omega), Nat.mul_comm t]

section
variable {a : Fin τ.nSC} {b : Fin τ.nSub} (d : Dev nD)

/-- A counted loop, by an invariant. -/
theorem wp_loop (l : Scf.Loop 32) (hok : l.OK) {init : BitVec 32}
    {body : Fin l.trips → BitVec 32 → Prog (TpuEff nD τ sig (Elt F) Λ₀ (.scVector a b)) (BitVec 32)}
    (I : ℕ → BitVec 32 → sProp 𝕄) {A : sProp 𝕄} {Q : BitVec 32 → sProp 𝕄} (h0 : A ⊢ I 0 init)
    (hbody : ∀ (t : Fin l.trips) (acc : BitVec 32), I t.val acc
      ⊢ wp frame (wpE (defs₀ (F := F)) 𝒱₀ (V d a b) none) Set.univ (body t acc) fun acc' => I (t.val + 1) acc')
    (hn : ∀ acc, I l.trips acc ⊢ Q acc) :
    A ⊢ wp frame (wpE (defs₀ (F := F)) 𝒱₀ (V d a b) none) Set.univ (Scf.Loop.for l hok init body) Q := by
  iintro HA
  iapply (Scf.wp_for frame (wpE (defs₀ (F := F)) 𝒱₀ (V d a b) none) Set.univ l.lb l.ub l.st hok init body I hbody)
  isplitl [HA]
  · iapply h0; iexact HA
  · iintro %acc H
    iapply (hn acc); iexact H

/-- What a histogram holds: its keys and its table. -/
abbrev histInv (d : Dev nD) (a : Fin τ.nSC) (b : Fin τ.nSub) (mk : Memref sig .scVector .vmem (Sh 20000) .i32) (mc : Memref sig .scVector .vmem (Sh 3200) .i32)
    (key pos : ℕ → ℕ) : sProp 𝕄 :=
  iprop(own d a b mk (arr 20000 (kw key)) ∗ own d a b mc (arr 3200 (histW key pos)))

/-- A step, then the rest. -/
theorem wp_seq {α : Type} {A B : sProp 𝕄} {p : Prog (TpuEff nD τ sig (Elt F) Λ₀ (.scVector a b)) PUnit}
    {q : Prog (TpuEff nD τ sig (Elt F) Λ₀ (.scVector a b)) α} {Q : α → sProp 𝕄}
    (hp : A ⊢ wp frame (wpE (defs₀ (F := F)) 𝒱₀ (V d a b) none) Set.univ p fun _ => B)
    (hq : B ⊢ wp frame (wpE (defs₀ (F := F)) 𝒱₀ (V d a b) none) Set.univ q Q) :
    A ⊢ wp frame (wpE (defs₀ (F := F)) 𝒱₀ (V d a b) none) Set.univ (p >>= fun _ => q) Q := by
  rw [Sem.wp_bind]
  exact hp.trans (wp_mono frame (wpE (defs₀ (F := F)) 𝒱₀ (V d a b) none) Set.univ fun _ => hq)

/-- Nothing more to run. -/
theorem wp_ret {α : Type} {v : α} {A : sProp 𝕄} {Q : α → sProp 𝕄} (h : A ⊢ Q v) :
    A ⊢ wp frame (wpE (defs₀ (F := F)) 𝒱₀ (V d a b) none) Set.univ (pure v : Prog (TpuEff nD τ sig (Elt F) Λ₀ (.scVector a b)) α) Q := by
  rw [Sem.wp_pure]
  iintro H
  imodintro
  iapply h
  iexact H

end

section
variable (i : grid0.Coords)
variable
  (arg2 : Memref sig .scVector .hbm S320000 .i32) (harg2 : arg2.IsWhole)
  (arg3 : Memref sig .scVector .hbm S320000 .i32) (harg3 : arg3.IsWhole)
  (arg4 : Memref sig .scVector .hbm S320000 .f32) (harg4 : arg4.IsWhole)
  (arg5 : Memref sig .scVector .hbm S320000 .i32) (harg5 : arg5.IsWhole)
  (arg6 : Memref sig .scVector .hbm S320000 .i32) (harg6 : arg6.IsWhole)
  (arg7 : Memref sig .scVector .hbm S320000 .f32) (harg7 : arg7.IsWhole)
  (arg8 : Memref sig .scVector .vmem S20000 .i32) (harg8 : arg8.IsWhole)
  (arg9 : Memref sig .scVector .vmem S20000 .i32) (harg9 : arg9.IsWhole)
  (arg10 : Memref sig .scVector .vmem S20000 .f32) (harg10 : arg10.IsWhole)
  (arg11 : Memref sig .scVector .vmem S20000 .i32) (harg11 : arg11.IsWhole)
  (arg12 : Memref sig .scVector .vmem S20000 .i32) (harg12 : arg12.IsWhole)
  (arg13 : Memref sig .scVector .vmem S20000 .f32) (harg13 : arg13.IsWhole)
  (arg14 : Memref sig .scVector .vmem S3200 .i32) (harg14 : arg14.IsWhole)
  (arg15 : Memref sig .scVector .vmem S3200 .i32) (harg15 : arg15.IsWhole)
  (v22_r0 : DmaSems sig S_) (v22_r1 : DmaSems sig S_) (v22_r2 : DmaSems sig S_) (v22_r3 : DmaSems sig S_) (v22_r4 : DmaSems sig S_) (v22_r5 : DmaSems sig S_)
  (v1 : BitVec 32) (k0_h1 : k0_cond1 i = 1#1)

/-- The shift of a tile's indices: its number times 625. -/
def shift (i : grid0.Coords) : BitVec 32 :=
  Scalar.muli (Scalar.addi (Scalar.muli (BitVec.ofNat 32 (i 1).val) 2#32) (BitVec.ofNat 32 (i 0).val)) 625#32

/-- The clearing loop's region: a vector of each table. -/
theorem t1_body (t : Fin k0_t1_loop.trips) (acc : BitVec 32) :
    k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 v22_r0 v22_r1 v22_r2 v22_r3 v22_r4 v22_r5 v1 k0_h1 t acc = (do
      zeroStep arg14 (k0_off2 t) (k0_off2_inb i t k0_h1)
      zeroStep arg15 (k0_off2 t) (k0_off2_inb i t k0_h1)
      pure 0#32) := rfl

/-- The first histogram's region: a vector of each stream. -/
theorem t2_body (t : Fin k0_t2_loop.trips) (acc : BitVec 32) :
    k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 v22_r0 v22_r1 v22_r2 v22_r3 v22_r4 v22_r5 v1 k0_h1 t acc = (do
      histStep arg9 arg14 (k0_off3 t) (k0_off3_inb i t k0_h1) 0#32 (k0_chk1 i) (k0_chk1.dec i)
        (fun v h => k0_idx1_inb i v h k0_h1)
      histStep arg9 arg14 (k0_off4 t) (k0_off4_inb i t k0_h1) 640#32 (k0_chk2 i) (k0_chk2.dec i)
        (fun v h => k0_idx2_inb i v h k0_h1)
      histStep arg9 arg14 (k0_off5 t) (k0_off5_inb i t k0_h1) 1280#32 (k0_chk3 i) (k0_chk3.dec i)
        (fun v h => k0_idx3_inb i v h k0_h1)
      histStep arg9 arg14 (k0_off6 t) (k0_off6_inb i t k0_h1) 1920#32 (k0_chk4 i) (k0_chk4.dec i)
        (fun v h => k0_idx4_inb i v h k0_h1)
      histStep arg9 arg14 (k0_off7 t) (k0_off7_inb i t k0_h1) 2560#32 (k0_chk5 i) (k0_chk5.dec i)
        (fun v h => k0_idx5_inb i v h k0_h1)
      pure 0#32) := rfl

/-- The first prefix sums' region. -/
theorem t3_body (t : Fin k0_t3_loop.trips) (acc : BitVec 32) :
    k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 v22_r0 v22_r1 v22_r2 v22_r3 v22_r4 v22_r5 v1 k0_h1 t acc
      = scanTrip arg14 (k0_off8 t) (k0_off8_inb i t k0_h1 0) (k0_off8_inb i t k0_h1 1) (k0_off8_inb i t k0_h1 2)
          (k0_off8_inb i t k0_h1 3) (k0_off8_inb i t k0_h1 4) acc := rfl

set_option maxHeartbeats 4000000 in
/-- The first ordering pass's region: a vector of each stream. -/
theorem t4_body (t : Fin k0_t4_loop.trips) (acc : BitVec 32) :
    k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 v22_r0 v22_r1 v22_r2 v22_r3 v22_r4 v22_r5 v1 k0_h1 t acc = (do
      passStep arg9 arg8 arg10 arg11 arg12 arg13 arg14 (k0_off9 t) (k0_off9_inb i t k0_h1) 0#32
        (fun _ x => x) (fun v _ => v) (k0_chk6 i) (k0_chk7 i) (k0_chk6.dec i) (k0_chk7.dec i)
        (fun v h => k0_idx6_inb i v h k0_h1) (fun v h => k0_idx7_inb i v h k0_h1)
      passStep arg9 arg8 arg10 arg11 arg12 arg13 arg14 (k0_off10 t) (k0_off10_inb i t k0_h1) 640#32
        (fun _ x => x) (fun v _ => v) (k0_chk8 i) (k0_chk9 i) (k0_chk8.dec i) (k0_chk9.dec i)
        (fun v h => k0_idx11_inb i v h k0_h1) (fun v h => k0_idx12_inb i v h k0_h1)
      passStep arg9 arg8 arg10 arg11 arg12 arg13 arg14 (k0_off11 t) (k0_off11_inb i t k0_h1) 1280#32
        (fun _ x => x) (fun v _ => v) (k0_chk10 i) (k0_chk11 i) (k0_chk10.dec i) (k0_chk11.dec i)
        (fun v h => k0_idx16_inb i v h k0_h1) (fun v h => k0_idx17_inb i v h k0_h1)
      passStep arg9 arg8 arg10 arg11 arg12 arg13 arg14 (k0_off12 t) (k0_off12_inb i t k0_h1) 1920#32
        (fun _ x => x) (fun v _ => v) (k0_chk12 i) (k0_chk13 i) (k0_chk12.dec i) (k0_chk13.dec i)
        (fun v h => k0_idx21_inb i v h k0_h1) (fun v h => k0_idx22_inb i v h k0_h1)
      passStep arg9 arg8 arg10 arg11 arg12 arg13 arg14 (k0_off13 t) (k0_off13_inb i t k0_h1) 2560#32
        (fun _ x => x) (fun v _ => v) (k0_chk14 i) (k0_chk15 i) (k0_chk14.dec i) (k0_chk15.dec i)
        (fun v h => k0_idx26_inb i v h k0_h1) (fun v h => k0_idx27_inb i v h k0_h1)
      pure 0#32) := rfl

/-- The second histogram's region: a vector of each stream. -/
theorem t5_body (t : Fin k0_t5_loop.trips) (acc : BitVec 32) :
    k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 v22_r0 v22_r1 v22_r2 v22_r3 v22_r4 v22_r5 v1 k0_h1 t acc = (do
      histStep arg11 arg15 (k0_off14 t) (k0_off14_inb i t k0_h1) 0#32 (k0_chk16 i) (k0_chk16.dec i)
        (fun v h => k0_idx31_inb i v h k0_h1)
      histStep arg11 arg15 (k0_off15 t) (k0_off15_inb i t k0_h1) 640#32 (k0_chk17 i) (k0_chk17.dec i)
        (fun v h => k0_idx32_inb i v h k0_h1)
      histStep arg11 arg15 (k0_off16 t) (k0_off16_inb i t k0_h1) 1280#32 (k0_chk18 i) (k0_chk18.dec i)
        (fun v h => k0_idx33_inb i v h k0_h1)
      histStep arg11 arg15 (k0_off17 t) (k0_off17_inb i t k0_h1) 1920#32 (k0_chk19 i) (k0_chk19.dec i)
        (fun v h => k0_idx34_inb i v h k0_h1)
      histStep arg11 arg15 (k0_off18 t) (k0_off18_inb i t k0_h1) 2560#32 (k0_chk20 i) (k0_chk20.dec i)
        (fun v h => k0_idx35_inb i v h k0_h1)
      pure 0#32) := rfl

/-- The second prefix sums' region. -/
theorem t6_body (t : Fin k0_t6_loop.trips) (acc : BitVec 32) :
    k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 v22_r0 v22_r1 v22_r2 v22_r3 v22_r4 v22_r5 k0_h1 0#32 t acc
      = scanTrip arg15 (k0_off19 t) (k0_off19_inb i t k0_h1 0) (k0_off19_inb i t k0_h1 1) (k0_off19_inb i t k0_h1 2)
          (k0_off19_inb i t k0_h1 3) (k0_off19_inb i t k0_h1 4) acc := rfl

/-- The second ordering pass's region: a vector of each stream. -/
theorem t7_body (t : Fin k0_t7_loop.trips) (acc : BitVec 32) :
    k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 v22_r0 v22_r1 v22_r2 v22_r3 v22_r4 v22_r5 k0_h1 (shift i) t acc = (do
      passStep arg11 arg12 arg13 arg8 arg9 arg10 arg15 (k0_off20 t) (k0_off20_inb i t k0_h1) 0#32
        (fun v _ => addi v (broadcast S16 (shift i))) (fun _ x => addi x (broadcast S16 (shift i))) (k0_chk21 i) (k0_chk22 i) (k0_chk21.dec i) (k0_chk22.dec i)
        (fun v h => k0_idx36_inb i v h k0_h1) (fun v h => k0_idx37_inb i v h k0_h1)
      passStep arg11 arg12 arg13 arg8 arg9 arg10 arg15 (k0_off21 t) (k0_off21_inb i t k0_h1) 640#32
        (fun v _ => addi v (broadcast S16 (shift i))) (fun _ x => addi x (broadcast S16 (shift i))) (k0_chk23 i) (k0_chk24 i) (k0_chk23.dec i) (k0_chk24.dec i)
        (fun v h => k0_idx41_inb i v h k0_h1) (fun v h => k0_idx42_inb i v h k0_h1)
      passStep arg11 arg12 arg13 arg8 arg9 arg10 arg15 (k0_off22 t) (k0_off22_inb i t k0_h1) 1280#32
        (fun v _ => addi v (broadcast S16 (shift i))) (fun _ x => addi x (broadcast S16 (shift i))) (k0_chk25 i) (k0_chk26 i) (k0_chk25.dec i) (k0_chk26.dec i)
        (fun v h => k0_idx46_inb i v h k0_h1) (fun v h => k0_idx47_inb i v h k0_h1)
      passStep arg11 arg12 arg13 arg8 arg9 arg10 arg15 (k0_off23 t) (k0_off23_inb i t k0_h1) 1920#32
        (fun v _ => addi v (broadcast S16 (shift i))) (fun _ x => addi x (broadcast S16 (shift i))) (k0_chk27 i) (k0_chk28 i) (k0_chk27.dec i) (k0_chk28.dec i)
        (fun v h => k0_idx51_inb i v h k0_h1) (fun v h => k0_idx52_inb i v h k0_h1)
      passStep arg11 arg12 arg13 arg8 arg9 arg10 arg15 (k0_off24 t) (k0_off24_inb i t k0_h1) 2560#32
        (fun v _ => addi v (broadcast S16 (shift i))) (fun _ x => addi x (broadcast S16 (shift i))) (k0_chk29 i) (k0_chk30 i) (k0_chk29.dec i) (k0_chk30.dec i)
        (fun v h => k0_idx56_inb i v h k0_h1) (fun v h => k0_idx57_inb i v h k0_h1)
      pure 0#32) := rfl

variable (d : Dev nD)

/-- The clearing loop clears both tables. -/
theorem t1_loop (G14 G15 : ℕ → BitVec 32) :
    iprop(own d ((i 0).castLE hcore0) ((i 1).castLE hsub0) arg14 (arr 3200 G14) ∗ own d ((i 0).castLE hcore0) ((i 1).castLE hsub0) arg15 (arr 3200 G15) : sProp 𝕄)
      ⊢ wp frame (wpE (defs₀ (F := F)) 𝒱₀ (V d ((i 0).castLE hcore0) ((i 1).castLE hsub0)) none) Set.univ
          (Scf.Loop.for k0_t1_loop (k0_t1_ok i k0_h1) 0#32
            (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 v22_r0 v22_r1 v22_r2 v22_r3 v22_r4 v22_r5 v1 k0_h1))
          fun _ => iprop(own d ((i 0).castLE hcore0) ((i 1).castLE hsub0) arg14 (arr 3200 fun _ => 0#32) ∗ own d ((i 0).castLE hcore0) ((i 1).castLE hsub0) arg15 (arr 3200 fun _ => 0#32)) := by
  have hfull : ∀ G, arr 3200 (zeroW 200 G) = arr 3200 fun _ => 0#32 := fun G => arr_congr fun p hp => if_pos (by omega)
  refine wp_loop d k0_t1_loop _ (fun n _ => iprop(own d ((i 0).castLE hcore0) ((i 1).castLE hsub0) arg14 (arr 3200 (zeroW n G14)) ∗ own d ((i 0).castLE hcore0) ((i 1).castLE hsub0) arg15 (arr 3200 (zeroW n G15)))) ?_ (fun t acc => ?_) (fun acc => ?_)
  · have h0 : ∀ G, zeroW 0 G = G := fun G => funext fun p => if_neg (by omega)
    rw [h0, h0]
  · have ht : t.val < 200 := t.isLt
    have ho : (k0_off2 t) 0 = 16 * t.val := (congrArg BitVec.toNat (BitVec.zero_add _)).symm.trans ((off_word 0 t.val (by omega)).trans (Nat.zero_add _))
    rw [t1_body]
    refine wp_seq d ((sep_mono_l (zeroStep_spec d ho)).trans (wp_frame_r _ _ _)) ?_
    refine wp_seq d ((sep_mono_r (zeroStep_spec d ho)).trans (wp_frame_l _ _ _)) ?_
    exact wp_ret d .rfl
  · show iprop(own d ((i 0).castLE hcore0) ((i 1).castLE hsub0) arg14 (arr 3200 (zeroW 200 G14)) ∗ own d ((i 0).castLE hcore0) ((i 1).castLE hsub0) arg15 (arr 3200 (zeroW 200 G15))) ⊢ _
    rw [hfull, hfull]

/-- The first histogram counts every key of each stream. -/
theorem t2_loop {key : ℕ → ℕ} (hkey : ∀ p, key p < 640) :
    iprop(own d ((i 0).castLE hcore0) ((i 1).castLE hsub0) arg9 (arr 20000 (kw key)) ∗ own d ((i 0).castLE hcore0) ((i 1).castLE hsub0) arg14 (arr 3200 fun _ => 0#32) : sProp 𝕄)
      ⊢ wp frame (wpE (defs₀ (F := F)) 𝒱₀ (V d ((i 0).castLE hcore0) ((i 1).castLE hsub0)) none) Set.univ
          (Scf.Loop.for k0_t2_loop (k0_t2_ok i k0_h1) 0#32
            (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 v22_r0 v22_r1 v22_r2 v22_r3 v22_r4 v22_r5 v1 k0_h1))
          fun _ => iprop(own d ((i 0).castLE hcore0) ((i 1).castLE hsub0) arg9 (arr 20000 (kw key)) ∗ own d ((i 0).castLE hcore0) ((i 1).castLE hsub0) arg14 (arr 3200 (scanW key 0 0))) := by
  refine wp_loop d k0_t2_loop _ (fun n _ => histInv d ((i 0).castLE hcore0) ((i 1).castLE hsub0) arg9 arg14 key (posAt n 0)) ?_ (fun t acc => ?_) (fun acc => ?_)
  · rw [histInv, arr_congr (G := histW key (posAt 0 0)) fun p _ => histW_zero posAt_first p]
  · have ht : t.val < 250 := t.isLt
    rw [t2_body, ← posAt_next]
    refine wp_seq d (histStep_spec d (fun _ h _ => h) hkey (posAt_took ht (by omega : 0 < 5)) (off_word (4000 * 0) t.val (by omega)) rfl) ?_
    refine wp_seq d (histStep_spec d (fun _ h _ => h) hkey (posAt_took ht (by omega : 1 < 5)) (off_word (4000 * 1) t.val (by omega)) rfl) ?_
    refine wp_seq d (histStep_spec d (fun _ h _ => h) hkey (posAt_took ht (by omega : 2 < 5)) (off_word (4000 * 2) t.val (by omega)) rfl) ?_
    refine wp_seq d (histStep_spec d (fun _ h _ => h) hkey (posAt_took ht (by omega : 3 < 5)) (off_word (4000 * 3) t.val (by omega)) rfl) ?_
    refine wp_seq d (histStep_spec d (fun _ h _ => h) hkey (posAt_took ht (by omega : 4 < 5)) (off_word (4000 * 4) t.val (by omega)) rfl) ?_
    exact wp_ret d .rfl
  · rw [arr_congr (G' := histW key (posAt 250 0)) fun p hp => (histW_full posAt_last p hp).symm]
    exact .rfl

/-- The second histogram counts every key of each stream. -/
theorem t5_loop {key : ℕ → ℕ} (hkey : ∀ p, key p < 640) :
    iprop(own d ((i 0).castLE hcore0) ((i 1).castLE hsub0) arg11 (arr 20000 (kw key)) ∗ own d ((i 0).castLE hcore0) ((i 1).castLE hsub0) arg15 (arr 3200 fun _ => 0#32) : sProp 𝕄)
      ⊢ wp frame (wpE (defs₀ (F := F)) 𝒱₀ (V d ((i 0).castLE hcore0) ((i 1).castLE hsub0)) none) Set.univ
          (Scf.Loop.for k0_t5_loop (k0_t5_ok i k0_h1) 0#32
            (k0_t5_body (F := F) i arg2 harg2 arg3 harg3 arg4 harg4 arg5 harg5 arg6 harg6 arg7 harg7 arg8 harg8 arg9 harg9 arg10 harg10 arg11 harg11 arg12 harg12 arg13 harg13 arg14 harg14 arg15 harg15 v22_r0 v22_r1 v22_r2 v22_r3 v22_r4 v22_r5 v1 k0_h1))
          fun _ => iprop(own d ((i 0).castLE hcore0) ((i 1).castLE hsub0) arg11 (arr 20000 (kw key)) ∗ own d ((i 0).castLE hcore0) ((i 1).castLE hsub0) arg15 (arr 3200 (scanW key 0 0))) := by
  refine wp_loop d k0_t5_loop _ (fun n _ => histInv d ((i 0).castLE hcore0) ((i 1).castLE hsub0) arg11 arg15 key (posAt n 0)) ?_ (fun t acc => ?_) (fun acc => ?_)
  · rw [histInv, arr_congr (G := histW key (posAt 0 0)) fun p _ => histW_zero posAt_first p]
  · have ht : t.val < 250 := t.isLt
    rw [t5_body, ← posAt_next]
    refine wp_seq d (histStep_spec d (fun _ h _ => h) hkey (posAt_took ht (by omega : 0 < 5)) (off_word (4000 * 0) t.val (by omega)) rfl) ?_
    refine wp_seq d (histStep_spec d (fun _ h _ => h) hkey (posAt_took ht (by omega : 1 < 5)) (off_word (4000 * 1) t.val (by omega)) rfl) ?_
    refine wp_seq d (histStep_spec d (fun _ h _ => h) hkey (posAt_took ht (by omega : 2 < 5)) (off_word (4000 * 2) t.val (by omega)) rfl) ?_
    refine wp_seq d (histStep_spec d (fun _ h _ => h) hkey (posAt_took ht (by omega : 3 < 5)) (off_word (4000 * 3) t.val (by omega)) rfl) ?_
    refine wp_seq d (histStep_spec d (fun _ h _ => h) hkey (posAt_took ht (by omega : 4 < 5)) (off_word (4000 * 4) t.val (by omega)) rfl) ?_
    exact wp_ret d .rfl
  · rw [arr_congr (G' := histW key (posAt 250 0)) fun p hp => (histW_full posAt_last p hp).symm]
    exact .rfl

/-- The first prefix sums leave the running positions. -/
theorem t3_loop (key : ℕ → ℕ) :
    (own d ((i 0).castLE hcore0) ((i 1).castLE hsub0) arg14 (arr 3200 (scanW key 0 0)) : sProp 𝕄)
      ⊢ wp frame (wpE (defs₀ (F := F)) 𝒱₀ (V d ((i 0).castLE hcore0) ((i 1).castLE hsub0)) none) Set.univ
          (Scf.Loop.for k0_t3_loop (k0_t3_ok i k0_h1) 0#32
            (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 v22_r0 v22_r1 v22_r2 v22_r3 v22_r4 v22_r5 v1 k0_h1))
          fun _ => own d ((i 0).castLE hcore0) ((i 1).castLE hsub0) arg14 (arr 3200 (passW key (posAt 0 0))) := by
  refine wp_loop d k0_t3_loop _ (fun n acc => iprop(⌜acc = BitVec.ofNat 32 (less 20000 key (16 * n))⌝ ∗ own d ((i 0).castLE hcore0) ((i 1).castLE hsub0) arg14 (arr 3200 (scanW key n 0)))) ?_ (fun t acc => ?_) (fun acc => ?_)
  · iintro H
    isplitr
    · ipureintro; rw [Nat.mul_zero, less_zero]
    · iexact H
  · have ht : t.val < 40 := t.isLt
    rw [t3_body]
    iintro ⟨%hacc, H⟩
    iapply (scanTrip_spec d ht (fun j hj => ?_) hacc) $$ H
    have : j = 0 ∨ j = 1 ∨ j = 2 ∨ j = 3 ∨ j = 4 := by omega
    rcases this with rfl | rfl | rfl | rfl | rfl <;> exact off_word _ t.val (by omega)
  · iintro ⟨-, H⟩
    rw [arr_congr (G := passW key (posAt 0 0)) fun p _ => (scanW_full posAt_first p).symm]
    iexact H

/-- The second prefix sums leave the running positions. -/
theorem t6_loop (key : ℕ → ℕ) :
    (own d ((i 0).castLE hcore0) ((i 1).castLE hsub0) arg15 (arr 3200 (scanW key 0 0)) : sProp 𝕄)
      ⊢ wp frame (wpE (defs₀ (F := F)) 𝒱₀ (V d ((i 0).castLE hcore0) ((i 1).castLE hsub0)) none) Set.univ
          (Scf.Loop.for k0_t6_loop (k0_t6_ok i k0_h1) 0#32
            (k0_t6_body (F := F) i arg2 harg2 arg3 harg3 arg4 harg4 arg5 harg5 arg6 harg6 arg7 harg7 arg8 harg8 arg9 harg9 arg10 harg10 arg11 harg11 arg12 harg12 arg13 harg13 arg14 harg14 arg15 harg15 v22_r0 v22_r1 v22_r2 v22_r3 v22_r4 v22_r5 k0_h1 0#32))
          fun _ => own d ((i 0).castLE hcore0) ((i 1).castLE hsub0) arg15 (arr 3200 (passW key (posAt 0 0))) := by
  refine wp_loop d k0_t6_loop _ (fun n acc => iprop(⌜acc = BitVec.ofNat 32 (less 20000 key (16 * n))⌝ ∗ own d ((i 0).castLE hcore0) ((i 1).castLE hsub0) arg15 (arr 3200 (scanW key n 0)))) ?_ (fun t acc => ?_) (fun acc => ?_)
  · iintro H
    isplitr
    · ipureintro; rw [Nat.mul_zero, less_zero]
    · iexact H
  · have ht : t.val < 40 := t.isLt
    rw [t6_body]
    iintro ⟨%hacc, H⟩
    iapply (scanTrip_spec d ht (fun j hj => ?_) hacc) $$ H
    have : j = 0 ∨ j = 1 ∨ j = 2 ∨ j = 3 ∨ j = 4 := by omega
    rcases this with rfl | rfl | rfl | rfl | rfl <;> exact off_word _ t.val (by omega)
  · iintro ⟨-, H⟩
    rw [arr_congr (G := passW key (posAt 0 0)) fun p _ => (scanW_full posAt_first p).symm]
    iexact H

/-- The first ordering pass moves every element to its key's rank. -/
theorem t4_loop {key : ℕ → ℕ} (hkey : ∀ p, key p < 640) (X O1 O2 : ℕ → BitVec 32) (Z O3 : ℕ → F .f32) :
    iprop(own d ((i 0).castLE hcore0) ((i 1).castLE hsub0) arg9 (arr 20000 (kw key)) ∗ own d ((i 0).castLE hcore0) ((i 1).castLE hsub0) arg8 (arr 20000 X) ∗ own d ((i 0).castLE hcore0) ((i 1).castLE hsub0) arg10 (arr 20000 Z)
        ∗ own d ((i 0).castLE hcore0) ((i 1).castLE hsub0) arg11 (arr 20000 O1) ∗ own d ((i 0).castLE hcore0) ((i 1).castLE hsub0) arg12 (arr 20000 O2) ∗ own d ((i 0).castLE hcore0) ((i 1).castLE hsub0) arg13 (arr 20000 O3)
        ∗ own d ((i 0).castLE hcore0) ((i 1).castLE hsub0) arg14 (arr 3200 (passW key (posAt 0 0))) : sProp 𝕄)
      ⊢ wp frame (wpE (defs₀ (F := F)) 𝒱₀ (V d ((i 0).castLE hcore0) ((i 1).castLE hsub0)) none) Set.univ
          (Scf.Loop.for k0_t4_loop (k0_t4_ok i k0_h1) 0#32
            (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 v22_r0 v22_r1 v22_r2 v22_r3 v22_r4 v22_r5 v1 k0_h1))
          fun _ => iprop(own d ((i 0).castLE hcore0) ((i 1).castLE hsub0) arg9 (arr 20000 (kw key)) ∗ own d ((i 0).castLE hcore0) ((i 1).castLE hsub0) arg8 (arr 20000 X) ∗ own d ((i 0).castLE hcore0) ((i 1).castLE hsub0) arg10 (arr 20000 Z)
            ∗ own d ((i 0).castLE hcore0) ((i 1).castLE hsub0) arg11 (arr 20000 fun p => X (unrank 20000 key p)) ∗ own d ((i 0).castLE hcore0) ((i 1).castLE hsub0) arg12 (arr 20000 fun p => (kw key) (unrank 20000 key p))
            ∗ own d ((i 0).castLE hcore0) ((i 1).castLE hsub0) arg13 (arr 20000 fun p => Z (unrank 20000 key p))
            ∗ own d ((i 0).castLE hcore0) ((i 1).castLE hsub0) arg14 (arr 3200 (passW key (posAt 250 0)))) := by
  have h0 : ∀ {α : Type} (val old : ℕ → α), moved key (posAt 0 0) val old = old := fun val old => funext fun p => moved_zero posAt_first val old p
  have hn : ∀ {α : Type} (val old : ℕ → α), arr 20000 (moved key (posAt 250 0) val old) = arr 20000 fun p => val (unrank 20000 key p) :=
    fun val old => arr_congr fun p hp => moved_full posAt_last val old p hp
  refine wp_loop d k0_t4_loop _ (fun n _ => passInv d (a := ((i 0).castLE hcore0)) (b := ((i 1).castLE hsub0)) arg9 arg8 arg10 arg11 arg12 arg13 arg14 key X Z X (kw key) O1 O2 O3 (posAt n 0)) ?_ (fun t acc => ?_) (fun acc => ?_)
  · unfold passInv
    rw [h0, h0, h0]
  · have ht : t.val < 250 := t.isLt
    rw [t4_body, ← posAt_next]
    refine wp_seq d (passStep_spec d (fun _ h => ⟨fun _ => h, fun _ => h⟩) (fun _ h => ⟨fun _ => h, fun _ => h, fun _ => h⟩) hkey
      (posAt_took ht (by omega : 0 < 5)) (off_word (4000 * 0) t.val (by omega)) rfl rfl rfl) ?_
    refine wp_seq d (passStep_spec d (fun _ h => ⟨fun _ => h, fun _ => h⟩) (fun _ h => ⟨fun _ => h, fun _ => h, fun _ => h⟩) hkey
      (posAt_took ht (by omega : 1 < 5)) (off_word (4000 * 1) t.val (by omega)) rfl rfl rfl) ?_
    refine wp_seq d (passStep_spec d (fun _ h => ⟨fun _ => h, fun _ => h⟩) (fun _ h => ⟨fun _ => h, fun _ => h, fun _ => h⟩) hkey
      (posAt_took ht (by omega : 2 < 5)) (off_word (4000 * 2) t.val (by omega)) rfl rfl rfl) ?_
    refine wp_seq d (passStep_spec d (fun _ h => ⟨fun _ => h, fun _ => h⟩) (fun _ h => ⟨fun _ => h, fun _ => h, fun _ => h⟩) hkey
      (posAt_took ht (by omega : 3 < 5)) (off_word (4000 * 3) t.val (by omega)) rfl rfl rfl) ?_
    refine wp_seq d (passStep_spec d (fun _ h => ⟨fun _ => h, fun _ => h⟩) (fun _ h => ⟨fun _ => h, fun _ => h, fun _ => h⟩) hkey
      (posAt_took ht (by omega : 4 < 5)) (off_word (4000 * 4) t.val (by omega)) rfl rfl rfl) ?_
    exact wp_ret d .rfl
  · show passInv d (a := ((i 0).castLE hcore0)) (b := ((i 1).castLE hsub0)) arg9 arg8 arg10 arg11 arg12 arg13 arg14 key X Z X (kw key) O1 O2 O3 (posAt 250 0) ⊢ _
    unfold passInv
    rw [hn, hn, hn]

/-- The second ordering pass moves every element to its key's rank. -/
theorem t7_loop {key : ℕ → ℕ} (hkey : ∀ p, key p < 640) (X O1 O2 : ℕ → BitVec 32) (Z O3 : ℕ → F .f32) :
    iprop(own d ((i 0).castLE hcore0) ((i 1).castLE hsub0) arg11 (arr 20000 (kw key)) ∗ own d ((i 0).castLE hcore0) ((i 1).castLE hsub0) arg12 (arr 20000 X) ∗ own d ((i 0).castLE hcore0) ((i 1).castLE hsub0) arg13 (arr 20000 Z)
        ∗ own d ((i 0).castLE hcore0) ((i 1).castLE hsub0) arg8 (arr 20000 O1) ∗ own d ((i 0).castLE hcore0) ((i 1).castLE hsub0) arg9 (arr 20000 O2) ∗ own d ((i 0).castLE hcore0) ((i 1).castLE hsub0) arg10 (arr 20000 O3)
        ∗ own d ((i 0).castLE hcore0) ((i 1).castLE hsub0) arg15 (arr 3200 (passW key (posAt 0 0))) : sProp 𝕄)
      ⊢ wp frame (wpE (defs₀ (F := F)) 𝒱₀ (V d ((i 0).castLE hcore0) ((i 1).castLE hsub0)) none) Set.univ
          (Scf.Loop.for k0_t7_loop (k0_t7_ok i k0_h1) 0#32
            (k0_t7_body (F := F) i arg2 harg2 arg3 harg3 arg4 harg4 arg5 harg5 arg6 harg6 arg7 harg7 arg8 harg8 arg9 harg9 arg10 harg10 arg11 harg11 arg12 harg12 arg13 harg13 arg14 harg14 arg15 harg15 v22_r0 v22_r1 v22_r2 v22_r3 v22_r4 v22_r5 k0_h1 (shift i)))
          fun _ => iprop(own d ((i 0).castLE hcore0) ((i 1).castLE hsub0) arg11 (arr 20000 (kw key)) ∗ own d ((i 0).castLE hcore0) ((i 1).castLE hsub0) arg12 (arr 20000 X) ∗ own d ((i 0).castLE hcore0) ((i 1).castLE hsub0) arg13 (arr 20000 Z)
            ∗ own d ((i 0).castLE hcore0) ((i 1).castLE hsub0) arg8 (arr 20000 fun p => (fun p => kw key p + shift i) (unrank 20000 key p)) ∗ own d ((i 0).castLE hcore0) ((i 1).castLE hsub0) arg9 (arr 20000 fun p => (fun p => X p + shift i) (unrank 20000 key p))
            ∗ own d ((i 0).castLE hcore0) ((i 1).castLE hsub0) arg10 (arr 20000 fun p => Z (unrank 20000 key p))
            ∗ own d ((i 0).castLE hcore0) ((i 1).castLE hsub0) arg15 (arr 3200 (passW key (posAt 250 0)))) := by
  have h0 : ∀ {α : Type} (val old : ℕ → α), moved key (posAt 0 0) val old = old := fun val old => funext fun p => moved_zero posAt_first val old p
  have hn : ∀ {α : Type} (val old : ℕ → α), arr 20000 (moved key (posAt 250 0) val old) = arr 20000 fun p => val (unrank 20000 key p) :=
    fun val old => arr_congr fun p hp => moved_full posAt_last val old p hp
  refine wp_loop d k0_t7_loop _ (fun n _ => passInv d (a := ((i 0).castLE hcore0)) (b := ((i 1).castLE hsub0)) arg11 arg12 arg13 arg8 arg9 arg10 arg15 key X Z (fun p => kw key p + shift i) (fun p => X p + shift i) O1 O2 O3 (posAt n 0)) ?_ (fun t acc => ?_) (fun acc => ?_)
  · unfold passInv
    rw [h0, h0, h0]
  · have ht : t.val < 250 := t.isLt
    rw [t7_body, ← posAt_next]
    refine wp_seq d (passStep_spec d (fun _ h => ⟨fun _ => h, fun _ => h⟩) (fun _ h => ⟨fun _ => h, fun _ => h, fun _ => h⟩) hkey
      (posAt_took ht (by omega : 0 < 5)) (off_word (4000 * 0) t.val (by omega)) rfl rfl rfl) ?_
    refine wp_seq d (passStep_spec d (fun _ h => ⟨fun _ => h, fun _ => h⟩) (fun _ h => ⟨fun _ => h, fun _ => h, fun _ => h⟩) hkey
      (posAt_took ht (by omega : 1 < 5)) (off_word (4000 * 1) t.val (by omega)) rfl rfl rfl) ?_
    refine wp_seq d (passStep_spec d (fun _ h => ⟨fun _ => h, fun _ => h⟩) (fun _ h => ⟨fun _ => h, fun _ => h, fun _ => h⟩) hkey
      (posAt_took ht (by omega : 2 < 5)) (off_word (4000 * 2) t.val (by omega)) rfl rfl rfl) ?_
    refine wp_seq d (passStep_spec d (fun _ h => ⟨fun _ => h, fun _ => h⟩) (fun _ h => ⟨fun _ => h, fun _ => h, fun _ => h⟩) hkey
      (posAt_took ht (by omega : 3 < 5)) (off_word (4000 * 3) t.val (by omega)) rfl rfl rfl) ?_
    refine wp_seq d (passStep_spec d (fun _ h => ⟨fun _ => h, fun _ => h⟩) (fun _ h => ⟨fun _ => h, fun _ => h, fun _ => h⟩) hkey
      (posAt_took ht (by omega : 4 < 5)) (off_word (4000 * 4) t.val (by omega)) rfl rfl rfl) ?_
    exact wp_ret d .rfl
  · show passInv d (a := ((i 0).castLE hcore0)) (b := ((i 1).castLE hsub0)) arg11 arg12 arg13 arg8 arg9 arg10 arg15 key X Z (fun p => kw key p + shift i) (fun p => X p + shift i) O1 O2 O3 (posAt 250 0) ⊢ _
    unfold passInv
    rw [hn, hn, hn]

end

end Cert.Proof
-- ==== Proof.Tile.lean ====
/-
  One vector subcore's task: it copies its graph's 20000 edges in, orders them by the two passes and copies them out. The
  arrays between the tasks are the edges' rows, columns and values; task `(c, i)` has the positions of graph `2 i + c`, of
  which there are none for the upper half of the subcores.
-/
module

public import proofs.«01_k».proof.Proof.Loops

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What the kernel computes -/

/-- An array of 320000 elements, read at a number. -/
def rd {α : Type} (f : S320000.Idx → α) (p : ℕ) : α := if h : p < 320000 then f (at' p h) else f (at' 0 (by decide))

theorem ofNat_word (w : BitVec 32) : BitVec.ofNat 32 w.toNat = w := by simp

theorem rd_at {α : Type} (f : S320000.Idx → α) (j : S320000.Idx) : rd f (j 0).val = f j := by
  rw [rd, dif_pos (idx_lt (n := 320000) j)]
  exact congrArg f (idx_ext (n := 320000) rfl)

/-- A number read from an array of small words is small. -/
theorem rd_lt (f : S320000.Idx → BitVec 32) (hf : ∀ j, (f j).toNat < 625) (p : ℕ) : (rd f p).toNat < 625 := by
  unfold rd
  split
  · exact hf _
  · exact hf _

/-- The column of edge `p` of graph `g`: the key of the first pass. -/
def key1 (C : S320000.Idx → BitVec 32) (g p : ℕ) : ℕ := (rd C (20000 * g + p)).toNat

/-- The row of the edge at place `p` after the first pass: the key of the second. -/
def key2 (X C : S320000.Idx → BitVec 32) (g p : ℕ) : ℕ := (rd X (20000 * g + unrank 20000 (key1 C g) p)).toNat

/-- The edge of graph `g` that comes to place `q`. -/
def perm (X C : S320000.Idx → BitVec 32) (g q : ℕ) : ℕ := unrank 20000 (key1 C g) (unrank 20000 (key2 X C g) q)

/-- The edge that comes to place `q` of the whole array. -/
def perm' (X C : S320000.Idx → BitVec 32) (q : ℕ) : ℕ := 20000 * (q / 20000) + perm X C (q / 20000) (q % 20000)

/-- An array of indices in its final order, each raised by its graph's first node. -/
def outI (A X C : S320000.Idx → BitVec 32) : S320000.Idx → BitVec 32 := fun j =>
  rd A (perm' X C (j 0).val) + BitVec.ofNat 32 (625 * ((j 0).val / 20000))

/-- The values in their final order. -/
def outZ (Z : S320000.Idx → F .f32) (X C : S320000.Idx → BitVec 32) : S320000.Idx → F .f32 := fun j => rd Z (perm' X C (j 0).val)

theorem outI_row (A X C : S320000.Idx → BitVec 32) {g : ℕ} {w : BitVec 32} (hw : w = BitVec.ofNat 32 (625 * g)) (j : S320000.Idx)
    (hj : (j 0).val / 20000 = g) :
    outI A X C j = BitVec.ofNat 32 (rd A (20000 * g + perm X C g ((j 0).val % 20000))).toNat + w := by
  rw [ofNat_word, hw, outI, perm', hj]

theorem outZ_row (Z : S320000.Idx → F .f32) (X C : S320000.Idx → BitVec 32) {g : ℕ} (j : S320000.Idx) (hj : (j 0).val / 20000 = g) :
    outZ Z X C j = rd Z (20000 * g + perm X C g ((j 0).val % 20000)) := by
  rw [outZ, perm', hj]

/-! ## The arrays -/

abbrev xLoc (d : Dev nD) : Loc nD τ sig := (SparseCore.T d).loc main_v1
abbrev cLoc (d : Dev nD) : Loc nD τ sig := (SparseCore.T d).loc main_v3
abbrev zLoc (d : Dev nD) : Loc nD τ sig := (SparseCore.T d).loc main_v4
abbrev oxLoc (d : Dev nD) : Loc nD τ sig := (SparseCore.T d).loc main_v5_0
abbrev ocLoc (d : Dev nD) : Loc nD τ sig := (SparseCore.T d).loc main_v5_1
abbrev ozLoc (d : Dev nD) : Loc nD τ sig := (SparseCore.T d).loc main_v5_2

abbrev xV : Memref sig .scVector .hbm S320000 .i32 := Memref.whole main_v1_scv
abbrev cV' : Memref sig .scVector .hbm S320000 .i32 := Memref.whole main_v3_scv
abbrev zV : Memref sig .scVector .hbm S320000 .f32 := Memref.whole main_v4_scv
abbrev oxV : Memref sig .scVector .hbm S320000 .i32 := Memref.whole main_v5_0_scv
abbrev ocV : Memref sig .scVector .hbm S320000 .i32 := Memref.whole main_v5_1_scv
abbrev ozV : Memref sig .scVector .hbm S320000 .f32 := Memref.whole main_v5_2_scv

abbrev bV8 : Memref sig .scVector .vmem S20000 .i32 := Memref.whole cc0_scratch0
abbrev bV9 : Memref sig .scVector .vmem S20000 .i32 := Memref.whole cc0_scratch1
abbrev bV10 : Memref sig .scVector .vmem S20000 .f32 := Memref.whole cc0_scratch2
abbrev bV11 : Memref sig .scVector .vmem S20000 .i32 := Memref.whole cc0_scratch3
abbrev bV12 : Memref sig .scVector .vmem S20000 .i32 := Memref.whole cc0_scratch4
abbrev bV13 : Memref sig .scVector .vmem S20000 .f32 := Memref.whole cc0_scratch5
abbrev bV14 : Memref sig .scVector .vmem S3200 .i32 := Memref.whole cc0_scratch6
abbrev bV15 : Memref sig .scVector .vmem S3200 .i32 := Memref.whole cc0_scratch7

/-- The positions of task `(c, i)`: those of graph `2 i + c`. -/
def rowSet (c i : ℕ) : Finset S320000.Idx := Finset.univ.filter fun x => (x 0).val / 20000 = 2 * i + c

variable [FloatOps F]

section Task

variable (d : Dev nD) (L : grid0.Coords)

abbrev cV (L : grid0.Coords) : Fin τ.nSC := (L 0).castLE hcore0
abbrev jV (L : grid0.Coords) : Fin τ.nSub := (L 1).castLE hsub0

/-- A task's graph. -/
abbrev gr (L : grid0.Coords) : ℕ := 2 * (L 1).val + (L 0).val

omit [FloatOps F] in
theorem active : ∀ L : grid0.Coords, k0_cond1 L = 1#1 ↔ gr L < 16 := by decide +kernel
omit [FloatOps F] in
theorem off1 : ∀ L : grid0.Coords, k0_off1 L 0 = 20000 * gr L := by decide +kernel
omit [FloatOps F] in
theorem shift_eq : ∀ L : grid0.Coords, shift L = BitVec.ofNat 32 (625 * gr L) := by decide +kernel

variable (h : k0_cond1 L = 1#1)

abbrev rowK (L : grid0.Coords) (h : k0_cond1 L = 1#1) : Rect S320000 := Rect.unit (s := S320000) (k0_off1 L) S20000.size (k0_off1_inb L h)

omit [FloatOps F] in
theorem rowK_set : (rowK L h).set = rowSet (L 0).val (L 1).val := by
  ext x
  rw [rowSet, Finset.mem_filter, Rect.mem_set_unit]
  constructor
  · intro H
    have := H 0
    rw [off1] at this
    have h2 : (x 0).val < 20000 * gr L + 20000 := this.2
    have h1 := this.1
    exact ⟨Finset.mem_univ _, by unfold gr at h1 h2; omega⟩
  · rintro ⟨-, H⟩ a
    rw [Fin.eq_zero a, off1]
    show _ ∧ (x 0).val < 20000 * gr L + 20000
    unfold gr
    omega

omit [FloatOps F] in
theorem rowSet_inactive (hn : ¬ k0_cond1 L = 1#1) : rowSet (L 0).val (L 1).val = ∅ := by
  rw [active] at hn
  refine Finset.filter_false_of_mem fun x _ => ?_
  have := idx_lt (n := 320000) x
  unfold gr at hn
  omega

omit [FloatOps F] in
/-- A task's window of an array is the set of its positions. -/
theorem slice_set :
    ((xV).slice (rowK L h) (fun _ => rfl)).view.set = rowSet (L 0).val (L 1).val
      ∧ ((cV').slice (rowK L h) (fun _ => rfl)).view.set = rowSet (L 0).val (L 1).val
      ∧ ((zV).slice (rowK L h) (fun _ => rfl)).view.set = rowSet (L 0).val (L 1).val
      ∧ ((oxV).slice (rowK L h) (fun _ => rfl)).view.set = rowSet (L 0).val (L 1).val
      ∧ ((ocV).slice (rowK L h) (fun _ => rfl)).view.set = rowSet (L 0).val (L 1).val
      ∧ ((ozV).slice (rowK L h) (fun _ => rfl)).view.set = rowSet (L 0).val (L 1).val := by
  have key : ∀ (b : Ref sig .scVector) (r : Rect b.ty.shape), ((View.whole b).slice r).set = r.set := fun b r => by
    rw [View.set_slice]; exact Finset.map_refl
  exact ⟨(key main_v1_scv (rowK L h)).trans (rowK_set L h), (key main_v3_scv (rowK L h)).trans (rowK_set L h),
    (key main_v4_scv (rowK L h)).trans (rowK_set L h), (key main_v5_0_scv (rowK L h)).trans (rowK_set L h),
    (key main_v5_1_scv (rowK L h)).trans (rowK_set L h), (key main_v5_2_scv (rowK L h)).trans (rowK_set L h)⟩

/-! ## A task's own semaphores and arrays -/

abbrev cell (d : Dev nD) (L : grid0.Coords) (s : DmaSem sig) : GSem nD τ sig := (V d (cV L) (jV L), .dma s)

/-- The cells of the copies' semaphores on a task's subcore. -/
abbrev cells (d : Dev nD) (L : grid0.Coords) : Finset (GSem nD τ sig) :=
  ({cc0_scoped0.sem, cc0_scoped1.sem, cc0_scoped2.sem, cc0_scoped3.sem, cc0_scoped4.sem, cc0_scoped5.sem} : Finset (DmaSem sig)).map
    ⟨cell d L, fun a b hab => by simpa [cell] using hab⟩

abbrev scratches : Finset (Ref sig .scVector) :=
  {cc0_scratch0, cc0_scratch1, cc0_scratch2, cc0_scratch3, cc0_scratch4, cc0_scratch5, cc0_scratch6, cc0_scratch7}

/-- The scratch arrays of a task's subcore. -/
abbrev bufs (L : grid0.Coords) : Finset (DevRef τ sig) :=
  scratches.map ⟨(Proc.scVector (cV L) (jV L)).devRef, Proc.devRef_injective _⟩

omit [FloatOps F] in
/-- The copies' semaphores are among the subcore's own. -/
theorem ownSems0_V :
    (ownSems0 (V d (cV L) (jV L)) : sProp 𝕄)
      = iprop((semVal (cell d L cc0_scoped0.sem) 0 ∗ semVal (cell d L cc0_scoped1.sem) 0 ∗ semVal (cell d L cc0_scoped2.sem) 0
          ∗ semVal (cell d L cc0_scoped3.sem) 0 ∗ semVal (cell d L cc0_scoped4.sem) 0 ∗ semVal (cell d L cc0_scoped5.sem) 0)
          ∗ bigSep (ownCells (V d (cV L) (jV L)) \ cells d L) fun g => semVal g 0) := by
  unfold SparseCore.Cfg.ownSems0
  rw [SparseCore.bigSep_sdiff_split' (t := cells d L) (fun g hg => ?_)]
  · unfold cells
    rw [SparseCore.bigSep_map, SparseCore.bigSep_insert' (by decide), SparseCore.bigSep_insert' (by decide), SparseCore.bigSep_insert' (by decide),
      SparseCore.bigSep_insert' (by decide), SparseCore.bigSep_insert' (by decide), bigSep_singleton]
    rfl
  · obtain ⟨s, -, rfl⟩ := Finset.mem_map.1 hg
    exact mem_ownCells.2 ⟨rfl, (by decide : ∀ s : DmaSem sig, (SemLoc.dma s : SemLoc sig).isScoped .scVector = true) s⟩

omit [FloatOps F] in
/-- The scratch arrays are among the subcore's own. -/
theorem ownBufs_V :
    (ownBufs (V d (cV L) (jV L)) : sProp 𝕄)
      = iprop(((∃ f, (bV8).view.loc (V d (cV L) (jV L)) ↦{fullShare} f) ∗ (∃ f, (bV9).view.loc (V d (cV L) (jV L)) ↦{fullShare} f)
          ∗ (∃ f, (bV10).view.loc (V d (cV L) (jV L)) ↦{fullShare} f) ∗ (∃ f, (bV11).view.loc (V d (cV L) (jV L)) ↦{fullShare} f)
          ∗ (∃ f, (bV12).view.loc (V d (cV L) (jV L)) ↦{fullShare} f) ∗ (∃ f, (bV13).view.loc (V d (cV L) (jV L)) ↦{fullShare} f)
          ∗ (∃ f, (bV14).view.loc (V d (cV L) (jV L)) ↦{fullShare} f) ∗ (∃ f, (bV15).view.loc (V d (cV L) (jV L)) ↦{fullShare} f))
          ∗ bigSep (ownRefs (τ := τ) (.scVector (cV L) (jV L)) \ bufs L) fun b => iprop(∃ f, ((d, b) : Loc nD τ sig) ↦{fullShare} f)) := by
  unfold SparseCore.Cfg.ownBufs
  refine (SparseCore.bigSep_sdiff_split' (t := bufs L) (fun b hb => ?_)).trans ?_
  · obtain ⟨s, hs, rfl⟩ := Finset.mem_map.1 hb
    simp only [scratches, Finset.mem_insert, Finset.mem_singleton] at hs
    rcases hs with rfl | rfl | rfl | rfl | rfl | rfl | rfl | rfl <;> exact SparseCore.Cfg.mem_ownRefs_of_owner rfl
  · unfold bufs scratches
    rw [SparseCore.bigSep_map (J := Ref sig .scVector), SparseCore.bigSep_insert' (by decide), SparseCore.bigSep_insert' (by decide), SparseCore.bigSep_insert' (by decide),
      SparseCore.bigSep_insert' (by decide), SparseCore.bigSep_insert' (by decide), SparseCore.bigSep_insert' (by decide),
      SparseCore.bigSep_insert' (by decide), bigSep_singleton]
    rfl

/-! ## What a window reads and what a write of it leaves -/

/-- The task's window of an array reads the array at the graph's positions. -/
theorem read_row {e : EltTy} (M : Memref sig .scVector .hbm S320000 e) (f : M.view.ty.Contents (Elt F)) :
    (M.slice (rowK L h) (fun _ => rfl)).view.read (Elt F) f
      = (arr 20000 fun p => rd (M.view.read (Elt F) f) (20000 * gr L + p) : (Sh 20000).Idx → Elt F e) := by
  funext x
  show M.view.read (Elt F) f ((rowK L h).emb x) = rd (M.view.read (Elt F) f) (20000 * gr L + (x 0).val)
  have : ((rowK L h).emb x 0).val = 20000 * gr L + (x 0).val := by
    show k0_off1 L 0 + 1 * (x 0).val = _
    rw [off1, Nat.one_mul]
  rw [← rd_at (M.view.read (Elt F) f) ((rowK L h).emb x), this]

/-- A write of the task's window leaves what was written, at the graph's positions. -/
theorem write_row {e : EltTy} (M : Memref sig .scVector .hbm S320000 e) (f : M.view.ty.Contents (Elt F)) (G : ℕ → Elt F e)
    (v : (rowK L h).shape.Idx → Elt F e) (hv : v = (arr 20000 G : (Sh 20000).Idx → Elt F e))
    (out : S320000.Idx → Elt F e) (hout : ∀ j : S320000.Idx, (j 0).val / 20000 = gr L → out j = G ((j 0).val % 20000))
    (j : S320000.Idx) (hj : j ∈ rowSet (L 0).val (L 1).val) :
    M.view.read (Elt F) ((M.slice (rowK L h) (fun _ => rfl)).view.writes (Elt F) f [⟨Rect.whole (rowK L h).shape, v⟩]) j = out j := by
  subst hv
  have hg : (j 0).val / 20000 = gr L := (Finset.mem_filter.1 hj).2
  rw [← rowK_set L h, ← Rect.map_emb_univ, Finset.mem_map] at hj
  obtain ⟨x, -, rfl⟩ := hj
  refine (congrFun (View.read_writes_whole (M.slice (rowK L h) (fun _ => rfl)).view f _) x).trans ?_
  rw [hout _ hg]
  have : ((rowK L h).emb x 0).val = 20000 * gr L + (x 0).val := by
    show k0_off1 L 0 + 1 * (x 0).val = _
    rw [off1, Nat.one_mul]
  have hx := idx_lt (n := 20000) x
  rw [this]
  show G (x 0).val = _
  congr 1
  omega

/-- The graph's positions of the rows' array, once written. -/
theorem ox_row (f : Buf (Elt F) (oxLoc d)) (v : (rowK L h).shape.Idx → Elt F .i32) (out : S320000.Idx → BitVec 32)
    (hw : ∀ j ∈ rowSet (L 0).val (L 1).val, oxV.view.read (Elt F) ((oxV.slice (rowK L h) (fun _ => rfl)).view.writes (Elt F) f [⟨Rect.whole (rowK L h).shape, v⟩]) j = out j) :
    ((oxV.slice (rowK L h) (fun _ => rfl)).view.loc (V d (cV L) (jV L)) ↦[(oxV.slice (rowK L h) (fun _ => rfl)).view.set]{fullShare} ((oxV.slice (rowK L h) (fun _ => rfl)).view.writes (Elt F) f [⟨Rect.whole (rowK L h).shape, v⟩]) : sProp 𝕄)
      = ((oxV.slice (rowK L h) (fun _ => rfl)).view.loc (V d (cV L) (jV L)) ↦[(oxV.slice (rowK L h) (fun _ => rfl)).view.set]{fullShare} out) := by
  rw [(slice_set L h).2.2.2.1]
  refine pointsTo_congr fun j hj => ?_
  have := hw j hj
  rw [View.read_whole] at this
  exact this

/-- The graph's positions of the columns' array, once written. -/
theorem oc_row (f : Buf (Elt F) (ocLoc d)) (v : (rowK L h).shape.Idx → Elt F .i32) (out : S320000.Idx → BitVec 32)
    (hw : ∀ j ∈ rowSet (L 0).val (L 1).val, ocV.view.read (Elt F) ((ocV.slice (rowK L h) (fun _ => rfl)).view.writes (Elt F) f [⟨Rect.whole (rowK L h).shape, v⟩]) j = out j) :
    ((ocV.slice (rowK L h) (fun _ => rfl)).view.loc (V d (cV L) (jV L)) ↦[(ocV.slice (rowK L h) (fun _ => rfl)).view.set]{fullShare} ((ocV.slice (rowK L h) (fun _ => rfl)).view.writes (Elt F) f [⟨Rect.whole (rowK L h).shape, v⟩]) : sProp 𝕄)
      = ((ocV.slice (rowK L h) (fun _ => rfl)).view.loc (V d (cV L) (jV L)) ↦[(ocV.slice (rowK L h) (fun _ => rfl)).view.set]{fullShare} out) := by
  rw [(slice_set L h).2.2.2.2.1]
  refine pointsTo_congr fun j hj => ?_
  have := hw j hj
  rw [View.read_whole] at this
  exact this

/-- The graph's positions of the values' array, once written. -/
theorem oz_row (f : Buf (Elt F) (ozLoc d)) (v : (rowK L h).shape.Idx → Elt F .f32) (out : S320000.Idx → F .f32)
    (hw : ∀ j ∈ rowSet (L 0).val (L 1).val, ozV.view.read (Elt F) ((ozV.slice (rowK L h) (fun _ => rfl)).view.writes (Elt F) f [⟨Rect.whole (rowK L h).shape, v⟩]) j = out j) :
    ((ozV.slice (rowK L h) (fun _ => rfl)).view.loc (V d (cV L) (jV L)) ↦[(ozV.slice (rowK L h) (fun _ => rfl)).view.set]{fullShare} ((ozV.slice (rowK L h) (fun _ => rfl)).view.writes (Elt F) f [⟨Rect.whole (rowK L h).shape, v⟩]) : sProp 𝕄)
      = ((ozV.slice (rowK L h) (fun _ => rfl)).view.loc (V d (cV L) (jV L)) ↦[(ozV.slice (rowK L h) (fun _ => rfl)).view.set]{fullShare} out) := by
  rw [(slice_set L h).2.2.2.2.2]
  refine pointsTo_congr fun j hj => ?_
  have := hw j hj
  rw [View.read_whole] at this
  exact this

/-! ## The scratch arrays, from the launch's resources and back -/

section Scratch

variable {a : Fin τ.nSC} {b : Fin τ.nSub} {n : ℕ} {e : EltTy} {m : Memref sig .scVector .vmem (Sh n) e}

theorem own_intro (hm : m.view.set = Finset.univ) {f : Buf (Elt F) (m.view.loc (V d a b))} {g : (Sh n).Idx → Elt F e}
    (hf : m.view.read (Elt F) f = g) : (m.view.loc (V d a b) ↦{fullShare} f : sProp 𝕄) ⊢ own d a b m g := by
  unfold own
  iintro H
  iexists f
  isplitr
  · ipureintro; exact hf
  · rw [hm]; iexact H

theorem own_elim (hm : m.view.set = Finset.univ) {g : (Sh n).Idx → Elt F e} :
    (own d a b m g : sProp 𝕄) ⊢ ∃ f : Buf (Elt F) (m.view.loc (V d a b)), ⌜m.view.read (Elt F) f = g⌝ ∗ (m.view.loc (V d a b) ↦{fullShare} f) := by
  unfold own
  rw [hm]

/-- Whatever an array holds, it holds some numbered elements. -/
theorem own_some (hm : m.view.set = Finset.univ) (hn : 0 < n) {f : Buf (Elt F) (m.view.loc (V d a b))} :
    (m.view.loc (V d a b) ↦{fullShare} f : sProp 𝕄) ⊢ ∃ G : ℕ → Elt F e, own d a b m (arr n G) := by
  iintro H
  iexists (fun p => if hp : p < n then m.view.read (Elt F) f (at' p hp) else m.view.read (Elt F) f (at' 0 hn))
  iapply (own_intro d hm ?_) $$ H
  funext x
  show _ = dite _ _ _
  rw [dif_pos (idx_lt x)]
  exact congrArg _ (idx_ext rfl)

/-- A step whose result is of no account, then the rest. -/
theorem wp_then {α β : Type} {A B : sProp 𝕄} {p : Prog (TpuEff nD τ sig (Elt F) Λ₀ (.scVector a b)) β}
    {k : β → Prog (TpuEff nD τ sig (Elt F) Λ₀ (.scVector a b)) α} {Q : α → sProp 𝕄}
    (hp : A ⊢ wp frame (wpE (defs₀ (F := F)) 𝒱₀ (V d a b) none) Set.univ p fun _ => B) :
    A ⊢ iprop((∀ v, B -∗ wp frame (wpE (defs₀ (F := F)) 𝒱₀ (V d a b) none) Set.univ (k v) Q)
      -∗ wp frame (wpE (defs₀ (F := F)) 𝒱₀ (V d a b) none) Set.univ (p >>= k) Q) := by
  rw [Sem.wp_bind]
  exact hp.trans (wp_wand frame (wpE (defs₀ (F := F)) 𝒱₀ (V d a b) none) Set.univ)

end Scratch

/-! ## The task -/

section Body

variable (X : ∀ d, Buf (Elt F) (xLoc d)) (C : ∀ d, Buf (Elt F) (cLoc d)) (Z : ∀ d, Buf (Elt F) (zLoc d))
  (O1 : ∀ d, Buf (Elt F) (oxLoc d)) (O2 : ∀ d, Buf (Elt F) (ocLoc d)) (O3 : ∀ d, Buf (Elt F) (ozLoc d))

/-- A set of positions of the six arrays, at these contents. -/
abbrev six (d : Dev nD) (R : Finset S320000.Idx) (x : Buf (Elt F) (xLoc d)) (c : Buf (Elt F) (cLoc d)) (z : Buf (Elt F) (zLoc d))
    (ox : Buf (Elt F) (oxLoc d)) (oc : Buf (Elt F) (ocLoc d)) (oz : Buf (Elt F) (ozLoc d)) : sProp 𝕄 :=
  iprop((xLoc d ↦[R]{fullShare} x) ∗ (cLoc d ↦[R]{fullShare} c) ∗ (zLoc d ↦[R]{fullShare} z)
    ∗ (oxLoc d ↦[R]{fullShare} ox) ∗ (ocLoc d ↦[R]{fullShare} oc) ∗ (ozLoc d ↦[R]{fullShare} oz))

/-- What a task is handed. -/
abbrev taskIn (d : Dev nD) (c i : ℕ) : sProp 𝕄 := six d (rowSet c i) (X d) (C d) (Z d) (O1 d) (O2 d) (O3 d)

/-- What it hands back. -/
abbrev taskOut (d : Dev nD) (c i : ℕ) : sProp 𝕄 :=
  six d (rowSet c i) (X d) (C d) (Z d) (outI (X d) (X d) (C d)) (outI (C d) (X d) (C d)) (outZ (F := F) (Z d) (X d) (C d))

/-- The same, through the task's windows of the arrays. -/
abbrev six' (d : Dev nD) (L : grid0.Coords) (h : k0_cond1 L = 1#1) (x : Buf (Elt F) (xLoc d)) (c : Buf (Elt F) (cLoc d)) (z : Buf (Elt F) (zLoc d))
    (ox : Buf (Elt F) (oxLoc d)) (oc : Buf (Elt F) (ocLoc d)) (oz : Buf (Elt F) (ozLoc d)) : sProp 𝕄 :=
  iprop((((xV).slice (rowK L h) (fun _ => rfl)).view.loc (V d (cV L) (jV L)) ↦[((xV).slice (rowK L h) (fun _ => rfl)).view.set]{fullShare} x)
    ∗ (((cV').slice (rowK L h) (fun _ => rfl)).view.loc (V d (cV L) (jV L)) ↦[((cV').slice (rowK L h) (fun _ => rfl)).view.set]{fullShare} c)
    ∗ (((zV).slice (rowK L h) (fun _ => rfl)).view.loc (V d (cV L) (jV L)) ↦[((zV).slice (rowK L h) (fun _ => rfl)).view.set]{fullShare} z)
    ∗ (((oxV).slice (rowK L h) (fun _ => rfl)).view.loc (V d (cV L) (jV L)) ↦[((oxV).slice (rowK L h) (fun _ => rfl)).view.set]{fullShare} ox)
    ∗ (((ocV).slice (rowK L h) (fun _ => rfl)).view.loc (V d (cV L) (jV L)) ↦[((ocV).slice (rowK L h) (fun _ => rfl)).view.set]{fullShare} oc)
    ∗ (((ozV).slice (rowK L h) (fun _ => rfl)).view.loc (V d (cV L) (jV L)) ↦[((ozV).slice (rowK L h) (fun _ => rfl)).view.set]{fullShare} oz))

omit [FloatOps F] in
theorem six_eq (h : k0_cond1 L = 1#1) (x : Buf (Elt F) (xLoc d)) (c : Buf (Elt F) (cLoc d)) (z : Buf (Elt F) (zLoc d))
    (ox : Buf (Elt F) (oxLoc d)) (oc : Buf (Elt F) (ocLoc d)) (oz : Buf (Elt F) (ozLoc d)) :
    (six d (rowSet (L 0).val (L 1).val) x c z ox oc oz : sProp 𝕄) = six' d L h x c z ox oc oz := by
  obtain ⟨sx, sc, sz, sox, soc, soz⟩ := slice_set L h
  unfold six'
  rw [sx, sc, sz, sox, soc, soz]

/-- Every row and column is a node of its graph. -/
def PreOK : Prop := ∀ (d : Dev nD) (j : S320000.Idx), (show BitVec 32 from X d j).toNat < 625 ∧ (show BitVec 32 from C d j).toNat < 625

set_option maxHeartbeats 4000000 in
/-- The task of a graph. -/
theorem tile_active (h : k0_cond1 L = 1#1) (hF : (K (F := F)).Facts) (hpre : PreOK X C) (O : CellTallies nD τ sig (HIx 1)) (W : Waits sig (HIx 1)) (hO : ∀ g, O g none = 0) :
    iprop(levAts (K (F := F)).L (K (F := F)).lev ∗ emp
        ∗ taskIn X C Z O1 O2 O3 d (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_sort_body L xV (Memref.isWhole_whole _) cV' (Memref.isWhole_whole _) zV (Memref.isWhole_whole _)
            oxV (Memref.isWhole_whole _) ocV (Memref.isWhole_whole _) ozV (Memref.isWhole_whole _)
            bV8 (Memref.isWhole_whole _) bV9 (Memref.isWhole_whole _) bV10 (Memref.isWhole_whole _)
            bV11 (Memref.isWhole_whole _) bV12 (Memref.isWhole_whole _) bV13 (Memref.isWhole_whole _)
            bV14 (Memref.isWhole_whole _) bV15 (Memref.isWhole_whole _)
            cc0_scoped0 cc0_scoped1 cc0_scoped2 cc0_scoped3 cc0_scoped4 cc0_scoped5)
          fun _ => iprop(taskOut X C Z d (L 0).val (L 1).val
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__sc_sort_body_eq_skeleton]
  unfold cc0__sc_sort_body_skel
  dsimp only
  rw [dif_pos h, k0_part7_eq_skeleton]
  unfold k0_part7_skel
  rw [(K (F := F)).scopedBufs_V hF d (cV L) (jV L), SparseCore.Cfg.scopedSems0_V (Val := Elt F) d (cV L) (jV L), ownSems0_V, ownBufs_V]
  unfold taskIn
  rw [six_eq d L h]
  iintro ⟨#Hlv, -, ⟨Hx, Hc, Hz, Hox, Hoc, Hoz⟩,
    ⟨⟨⟨%f8, H8⟩, ⟨%f9, H9⟩, ⟨%f10, H10⟩, ⟨%f11, H11⟩, ⟨%f12, H12⟩, ⟨%f13, H13⟩, ⟨%f14, H14⟩, ⟨%f15, H15⟩⟩, Hbufs⟩,
    ⟨⟨S0, S1, S2, S3, S4, S5⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  sl_exec
  have h8 : (bV8).view.set = Finset.univ := View.set_whole _
  have h9 : (bV9).view.set = Finset.univ := View.set_whole _
  have h10 : (bV10).view.set = Finset.univ := View.set_whole _
  have h11 : (bV11).view.set = Finset.univ := View.set_whole _
  have h12 : (bV12).view.set = Finset.univ := View.set_whole _
  have h13 : (bV13).view.set = Finset.univ := View.set_whole _
  have h14 : (bV14).view.set = Finset.univ := View.set_whole _
  have h15 : (bV15).view.set = Finset.univ := View.set_whole _
  have hk1 : ∀ p, key1 (C d) (gr L) p < 640 := fun p => Nat.lt_trans (rd_lt _ (fun j => (hpre d j).2) _) (by decide)
  have hk2 : ∀ p, key2 (X d) (C d) (gr L) p < 640 := fun p => Nat.lt_trans (rd_lt _ (fun j => (hpre d j).1) _) (by decide)
  ihave H8 := (own_intro d (m := bV8) h8 (g := arr 20000 fun p => rd (X d) (20000 * gr L + p)) (by
    exact (View.read_write_univ _ _).trans (read_row L h xV (X d)))) $$ H8
  ihave H9 := (own_intro d (m := bV9) h9 (g := arr 20000 (kw (key1 (C d) (gr L)))) (by
    refine (View.read_write_univ _ _).trans ((read_row L h cV' (C d)).trans ?_)
    exact arr_congr fun p _ => (ofNat_word _).symm)) $$ H9
  ihave H10 := (own_intro d (m := bV10) h10 (g := arr 20000 fun p => rd (Z d) (20000 * gr L + p)) (by
    exact (View.read_write_univ _ _).trans (read_row L h zV (Z d)))) $$ H10
  ihave H11 := (own_some d (m := bV11) h11 (by decide)) $$ H11
  icases H11 with ⟨%G11, H11⟩
  ihave H12 := (own_some d (m := bV12) h12 (by decide)) $$ H12
  icases H12 with ⟨%G12, H12⟩
  ihave H13 := (own_some d (m := bV13) h13 (by decide)) $$ H13
  icases H13 with ⟨%G13, H13⟩
  ihave H14 := (own_some d (m := bV14) h14 (by decide)) $$ H14
  icases H14 with ⟨%G14, H14⟩
  ihave H15 := (own_some d (m := bV15) h15 (by decide)) $$ H15
  icases H15 with ⟨%G15, H15⟩
  rw [Sem.wp_bind]
  iapply (wp_then d (t1_loop L xV (Memref.isWhole_whole _) cV' (Memref.isWhole_whole _) zV (Memref.isWhole_whole _)
    oxV (Memref.isWhole_whole _) ocV (Memref.isWhole_whole _) ozV (Memref.isWhole_whole _) bV8 (Memref.isWhole_whole _)
    bV9 (Memref.isWhole_whole _) bV10 (Memref.isWhole_whole _) bV11 (Memref.isWhole_whole _) bV12 (Memref.isWhole_whole _)
    bV13 (Memref.isWhole_whole _) bV14 (Memref.isWhole_whole _) bV15 (Memref.isWhole_whole _)
    cc0_scoped0 cc0_scoped1 cc0_scoped2 cc0_scoped3 cc0_scoped4 cc0_scoped5 _ h d G14 G15)) $$ [H14 H15]
  · isplitl [H14]; · iexact H14
    iexact H15
  iintro %v1 ⟨H14, H15⟩
  iapply (wp_then d (t2_loop L xV (Memref.isWhole_whole _) cV' (Memref.isWhole_whole _) zV (Memref.isWhole_whole _)
    oxV (Memref.isWhole_whole _) ocV (Memref.isWhole_whole _) ozV (Memref.isWhole_whole _) bV8 (Memref.isWhole_whole _)
    bV9 (Memref.isWhole_whole _) bV10 (Memref.isWhole_whole _) bV11 (Memref.isWhole_whole _) bV12 (Memref.isWhole_whole _)
    bV13 (Memref.isWhole_whole _) bV14 (Memref.isWhole_whole _) bV15 (Memref.isWhole_whole _)
    cc0_scoped0 cc0_scoped1 cc0_scoped2 cc0_scoped3 cc0_scoped4 cc0_scoped5 _ h d hk1)) $$ [H9 H14]
  · isplitl [H9]; · iexact H9
    iexact H14
  iintro %v2 ⟨H9, H14⟩
  iapply (wp_then d (t3_loop L xV (Memref.isWhole_whole _) cV' (Memref.isWhole_whole _) zV (Memref.isWhole_whole _)
    oxV (Memref.isWhole_whole _) ocV (Memref.isWhole_whole _) ozV (Memref.isWhole_whole _) bV8 (Memref.isWhole_whole _)
    bV9 (Memref.isWhole_whole _) bV10 (Memref.isWhole_whole _) bV11 (Memref.isWhole_whole _) bV12 (Memref.isWhole_whole _)
    bV13 (Memref.isWhole_whole _) bV14 (Memref.isWhole_whole _) bV15 (Memref.isWhole_whole _)
    cc0_scoped0 cc0_scoped1 cc0_scoped2 cc0_scoped3 cc0_scoped4 cc0_scoped5 _ h d (key1 (C d) (gr L)))) $$ [H14]
  · iexact H14
  iintro %v3 H14
  iapply (wp_then d (t4_loop L xV (Memref.isWhole_whole _) cV' (Memref.isWhole_whole _) zV (Memref.isWhole_whole _)
    oxV (Memref.isWhole_whole _) ocV (Memref.isWhole_whole _) ozV (Memref.isWhole_whole _) bV8 (Memref.isWhole_whole _)
    bV9 (Memref.isWhole_whole _) bV10 (Memref.isWhole_whole _) bV11 (Memref.isWhole_whole _) bV12 (Memref.isWhole_whole _)
    bV13 (Memref.isWhole_whole _) bV14 (Memref.isWhole_whole _) bV15 (Memref.isWhole_whole _)
    cc0_scoped0 cc0_scoped1 cc0_scoped2 cc0_scoped3 cc0_scoped4 cc0_scoped5 _ h d hk1 (fun p => rd (X d) (20000 * gr L + p)) G11 G12 (fun p => rd (Z d) (20000 * gr L + p)) G13)) $$ [H9 H8 H10 H11 H12 H13 H14]
  · isplitl [H9]; · iexact H9
    isplitl [H8]; · iexact H8
    isplitl [H10]; · iexact H10
    isplitl [H11]; · iexact H11
    isplitl [H12]; · iexact H12
    isplitl [H13]; · iexact H13
    iexact H14
  iintro %v4 ⟨H9, H8, H10, H11, H12, H13, H14⟩
  have e11 : (arr 20000 fun p => rd (X d) (20000 * gr L + unrank 20000 (key1 (C d) (gr L)) p)) = arr 20000 (kw (key2 (X d) (C d) (gr L))) :=
    arr_congr fun p _ => (ofNat_word _).symm
  rw [e11]
  iapply (wp_then d (t5_loop L xV (Memref.isWhole_whole _) cV' (Memref.isWhole_whole _) zV (Memref.isWhole_whole _)
    oxV (Memref.isWhole_whole _) ocV (Memref.isWhole_whole _) ozV (Memref.isWhole_whole _) bV8 (Memref.isWhole_whole _)
    bV9 (Memref.isWhole_whole _) bV10 (Memref.isWhole_whole _) bV11 (Memref.isWhole_whole _) bV12 (Memref.isWhole_whole _)
    bV13 (Memref.isWhole_whole _) bV14 (Memref.isWhole_whole _) bV15 (Memref.isWhole_whole _)
    cc0_scoped0 cc0_scoped1 cc0_scoped2 cc0_scoped3 cc0_scoped4 cc0_scoped5 _ h d hk2)) $$ [H11 H15]
  · isplitl [H11]; · iexact H11
    iexact H15
  iintro %v5 ⟨H11, H15⟩
  rw [Sem.wp_pure]
  imodintro
  iapply (wp_then d (t6_loop L xV (Memref.isWhole_whole _) cV' (Memref.isWhole_whole _) zV (Memref.isWhole_whole _)
    oxV (Memref.isWhole_whole _) ocV (Memref.isWhole_whole _) ozV (Memref.isWhole_whole _) bV8 (Memref.isWhole_whole _)
    bV9 (Memref.isWhole_whole _) bV10 (Memref.isWhole_whole _) bV11 (Memref.isWhole_whole _) bV12 (Memref.isWhole_whole _)
    bV13 (Memref.isWhole_whole _) bV14 (Memref.isWhole_whole _) bV15 (Memref.isWhole_whole _)
    cc0_scoped0 cc0_scoped1 cc0_scoped2 cc0_scoped3 cc0_scoped4 cc0_scoped5 h d (key2 (X d) (C d) (gr L)))) $$ [H15]
  · iexact H15
  iintro %v6 H15
  iapply (wp_then d (t7_loop L xV (Memref.isWhole_whole _) cV' (Memref.isWhole_whole _) zV (Memref.isWhole_whole _)
    oxV (Memref.isWhole_whole _) ocV (Memref.isWhole_whole _) ozV (Memref.isWhole_whole _) bV8 (Memref.isWhole_whole _)
    bV9 (Memref.isWhole_whole _) bV10 (Memref.isWhole_whole _) bV11 (Memref.isWhole_whole _) bV12 (Memref.isWhole_whole _)
    bV13 (Memref.isWhole_whole _) bV14 (Memref.isWhole_whole _) bV15 (Memref.isWhole_whole _)
    cc0_scoped0 cc0_scoped1 cc0_scoped2 cc0_scoped3 cc0_scoped4 cc0_scoped5 h d hk2
    (fun p => kw (key1 (C d) (gr L)) (unrank 20000 (key1 (C d) (gr L)) p)) (fun p => rd (X d) (20000 * gr L + p)) (kw (key1 (C d) (gr L)))
    (fun p => rd (Z d) (20000 * gr L + unrank 20000 (key1 (C d) (gr L)) p)) (fun p => rd (Z d) (20000 * gr L + p)))) $$ [H11 H12 H13 H8 H9 H10 H15]
  · isplitl [H11]; · iexact H11
    isplitl [H12]; · iexact H12
    isplitl [H13]; · iexact H13
    isplitl [H8]; · iexact H8
    isplitl [H9]; · iexact H9
    isplitl [H10]; · iexact H10
    iexact H15
  iintro %v7 ⟨H11, H12, H13, H8, H9, H10, H15⟩
  ihave H8 := (own_elim d (m := bV8) h8) $$ H8
  icases H8 with ⟨%g8, %e8, H8⟩
  ihave H9 := (own_elim d (m := bV9) h9) $$ H9
  icases H9 with ⟨%g9, %e9, H9⟩
  ihave H10 := (own_elim d (m := bV10) h10) $$ H10
  icases H10 with ⟨%g10, %e10, H10⟩
  ihave H11 := (own_elim d (m := bV11) h11) $$ H11
  icases H11 with ⟨%g11, -, H11⟩
  ihave H12 := (own_elim d (m := bV12) h12) $$ H12
  icases H12 with ⟨%g12, -, H12⟩
  ihave H13 := (own_elim d (m := bV13) h13) $$ H13
  icases H13 with ⟨%g13, -, H13⟩
  ihave H14 := (own_elim d (m := bV14) h14) $$ H14
  icases H14 with ⟨%g14, -, H14⟩
  ihave H15 := (own_elim d (m := bV15) h15) $$ H15
  icases H15 with ⟨%g15, -, H15⟩
  sl_exec
  rw [Sem.wp_ret]
  imodintro
  have w8 := write_row L h oxV (O1 d) _ (tile_active.sl.dma0_3 d L g8) e8 (outI (X d) (X d) (C d)) (outI_row (X d) (X d) (C d) (shift_eq L))
  have w9 := write_row L h ocV (O2 d) _ (tile_active.sl.dma0_4 d L g9) e9 (outI (C d) (X d) (C d)) (outI_row (C d) (X d) (C d) (shift_eq L))
  have w10 := write_row L h ozV (O3 d) _ (tile_active.sl.dma0_5 d L g10) e10 (outZ (F := F) (Z d) (X d) (C d)) (outZ_row (Z d) (X d) (C d))
  ihave Hox := (Entails.of_eq (ox_row d L h (O1 d) (tile_active.sl.dma0_3 d L g8) _ w8)) $$ Hox
  ihave Hoc := (Entails.of_eq (oc_row d L h (O2 d) (tile_active.sl.dma0_4 d L g9) _ w9)) $$ Hoc
  ihave Hoz := (Entails.of_eq (oz_row d L h (O3 d) (tile_active.sl.dma0_5 d L g10) _ w10)) $$ Hoz
  unfold taskOut
  rw [six_eq d L h]
  isplitl [Hx Hc Hz Hox Hoc Hoz]
  · isplitl [Hx]; · iexact Hx
    isplitl [Hc]; · iexact Hc
    isplitl [Hz]; · iexact Hz
    isplitl [Hox]; · iexact Hox
    isplitl [Hoc]; · iexact Hoc
    iexact Hoz
  isplitl [H8 H9 H10 H11 H12 H13 H14 H15 Hbufs]
  · isplitr [Hbufs]
    · isplitl [H8]; · iexists g8; iexact H8
      isplitl [H9]; · iexists g9; iexact H9
      isplitl [H10]; · iexists g10; iexact H10
      isplitl [H11]; · iexists g11; iexact H11
      isplitl [H12]; · iexists g12; iexact H12
      isplitl [H13]; · iexists g13; iexact H13
      isplitl [H14]; · iexists g14; iexact H14
      iexists g15; iexact H15
    iexact Hbufs
  isplitl [S0 S1 S2 S3 S4 S5 Hsems]
  · isplitr [Hsems]
    · isplitl [S0]; · iexact S0
      isplitl [S1]; · iexact S1
      isplitl [S2]; · iexact S2
      isplitl [S3]; · iexact S3
      isplitl [S4]; · iexact S4
      iexact S5
    iexact Hsems
  iexists _
  isplitr
  swap
  · iexact HO
  ipureintro
  intro p hp
  simp only [Finset.mem_insert] at hp
  rcases hp with hp | hp | hp | hp | hp | hp | hp
  all_goals first | exact .inl hp | exact .inr (hp ▸ rfl)

set_option maxHeartbeats 1000000 in
/-- Every task: those with no graph do nothing, and have no position. -/
theorem tile_body (hF : (K (F := F)).Facts) (hpre : PreOK X C) (O : CellTallies nD τ sig (HIx 1)) (W : Waits sig (HIx 1)) (hO : ∀ g, O g none = 0) :
    iprop(levAts (K (F := F)).L (K (F := F)).lev ∗ emp
        ∗ taskIn X C Z O1 O2 O3 d (L 0).val (L 1).val
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_sort_body L xV (Memref.isWhole_whole _) cV' (Memref.isWhole_whole _) zV (Memref.isWhole_whole _)
            oxV (Memref.isWhole_whole _) ocV (Memref.isWhole_whole _) ozV (Memref.isWhole_whole _)
            bV8 (Memref.isWhole_whole _) bV9 (Memref.isWhole_whole _) bV10 (Memref.isWhole_whole _)
            bV11 (Memref.isWhole_whole _) bV12 (Memref.isWhole_whole _) bV13 (Memref.isWhole_whole _)
            bV14 (Memref.isWhole_whole _) bV15 (Memref.isWhole_whole _)
            cc0_scoped0 cc0_scoped1 cc0_scoped2 cc0_scoped3 cc0_scoped4 cc0_scoped5)
          fun _ => iprop(taskOut X C Z d (L 0).val (L 1).val
            ∗ scopedBufs (V d (cV L) (jV L)) ∗ scopedSems0 (V d (cV L) (jV L))
            ∗ ∃ W', ⌜∀ p ∈ W', p ∈ W ∨ p.2 = none⌝ ∗ owes (V d (cV L) (jV L)) O W') := by
  by_cases h : k0_cond1 L = 1#1
  · exact tile_active d L X C Z O1 O2 O3 h hF hpre O W hO
  rw [cc0__sc_sort_body_eq_skeleton]
  unfold cc0__sc_sort_body_skel
  dsimp only
  rw [dif_neg h]
  unfold taskIn taskOut
  rw [rowSet_inactive L h]
  unfold six
  rw [pointsTo_congr (ℓ := oxLoc d) (g := outI (X d) (X d) (C d)) fun j hj => absurd hj (Finset.notMem_empty j),
    pointsTo_congr (ℓ := ocLoc d) (g := outI (C d) (X d) (C d)) fun j hj => absurd hj (Finset.notMem_empty j),
    pointsTo_congr (ℓ := ozLoc d) (g := outZ (F := F) (Z d) (X d) (C d)) fun j hj => absurd hj (Finset.notMem_empty j)]
  iintro ⟨-, -, H, Hb, Hs, HO⟩
  sl_exec
  rw [Sem.wp_ret]
  imodintro
  isplitl [H]; · iexact H
  isplitl [Hb]; · iexact Hb
  isplitl [Hs]; · iexact Hs
  iexists _
  isplitr
  swap
  · iexact HO
  ipureintro
  exact fun p hp => .inl hp

end Body

end Task

end Cert.Proof
-- ==== Proof.Launch.lean ====
/-
  The launch: the program of the TensorCore cuts the edges into rows, columns and values, has the SparseCores sort each
  graph, and puts the sorted rows and columns side by side. Its run: every result at its value, every argument as given,
  every semaphore back at zero.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr after)

variable {F : FTy → Type}

local notation "𝕄" => MT nD τ sig (HIx 1) (Elt F) ℕ UU ℕ

variable [FloatOps F] (m : (ℓ : Loc nD τ sig) → Buf (Elt F) ℓ) (ρ : Dev nD → PrngReg)

/-! ## The program of the TensorCore -/

/-- What it does before the call. -/
abbrev opsA : List (HloOp τ sig (Elt F)) :=
  [StableHlo.nullary main_c (constantI S2 32 10000#32),
   StableHlo.unary main_arg2 main_v0 ((extractStridedSlice S320000x1 ![0, 0] · slices_S320000x2_S320000x1_0_0) : (⟨S320000x2, .i32⟩ : BufTy).Contents (Elt F) → (⟨S320000x1, .i32⟩ : BufTy).Contents (Elt F)),
   StableHlo.reshape main_v0 main_v1 (rfl : (.i32 : EltTy) = .i32) shapeCasts_S320000x1_S320000,
   StableHlo.unary main_arg2 main_v2 ((extractStridedSlice S320000x1 ![0, 1] · slices_S320000x2_S320000x1_0_1) : (⟨S320000x2, .i32⟩ : BufTy).Contents (Elt F) → (⟨S320000x1, .i32⟩ : BufTy).Contents (Elt F)),
   StableHlo.reshape main_v2 main_v3 (rfl : (.i32 : EltTy) = .i32) shapeCasts_S320000x1_S320000,
   StableHlo.reshape main_arg4 main_v4 (rfl : (.f32 : EltTy) = .f32) shapeCasts_S320000x1_S320000]

/-- What it does after the call. -/
abbrev opsB : List (HloOp τ sig (Elt F)) :=
  [StableHlo.unary main_v5_0 main_v6 (broadcastInDim S320000x1 ![0] bcast_S320000_S320000x1_0 : (⟨S320000, .i32⟩ : BufTy).Contents (Elt F) → (⟨S320000x1, .i32⟩ : BufTy).Contents (Elt F)),
   StableHlo.unary main_v5_1 main_v7 (broadcastInDim S320000x1 ![0] bcast_S320000_S320000x1_0 : (⟨S320000, .i32⟩ : BufTy).Contents (Elt F) → (⟨S320000x1, .i32⟩ : BufTy).Contents (Elt F)),
   StableHlo.binary main_v6 main_v7 main_v8 ((fun a b => concatenate S320000x2 1 [⟨S320000x1, a⟩, ⟨S320000x1, b⟩] concatenates_S320000x1_S320000x1_S320000x2_d1) : (⟨S320000x1, .i32⟩ : BufTy).Contents (Elt F) → (⟨S320000x1, .i32⟩ : BufTy).Contents (Elt F) → (⟨S320000x2, .i32⟩ : BufTy).Contents (Elt F))]

theorem main_eq (d : Dev nD) : main (F := F) d
    = (StableHlo.seq opsA >>= fun _ => (sc (F := F)).run d 0 >>= fun _ => StableHlo.seq opsB >>= fun _ => pure ⟨⟩) := by
  simp only [main, StableHlo.seq, bind_assoc, pure_bind]

abbrev r1 : DevRef τ sig := Proc.devRef .tc main_v1
abbrev r3 : DevRef τ sig := Proc.devRef .tc main_v3
abbrev r4 : DevRef τ sig := Proc.devRef .tc main_v4
abbrev p0 : DevRef τ sig := Proc.devRef .tc main_v5_0
abbrev p1 : DevRef τ sig := Proc.devRef .tc main_v5_1
abbrev p2 : DevRef τ sig := Proc.devRef .tc main_v5_2

/-- The TensorCore's arrays. -/
abbrev arrays : Finset (DevRef τ sig) := (StableHlo.tcRefs τ sig).filter fun b => b.isScoped = false

/-- Those of the call. -/
abbrev callArrays : Finset (DevRef τ sig) := {r1, r3, r4, p0, p1, p2}

/-- The arrays at the launch, before the call, after it, and at the end. -/
def V0 (d : Dev nD) : Valuation τ sig (Elt F) := fun b => m (d, b)
def V1 (d : Dev nD) : Valuation τ sig (Elt F) := after opsA (V0 m d)
def rowsOf (d : Dev nD) : Buf (Elt F) (xLoc d) := V1 m d r1
def colsOf (d : Dev nD) : Buf (Elt F) (cLoc d) := V1 m d r3
def valsOf (d : Dev nD) : Buf (Elt F) (zLoc d) := V1 m d r4
def V2 (d : Dev nD) : Valuation τ sig (Elt F) :=
  Function.update (Function.update (Function.update (V1 m d) p0 (outI (rowsOf m d) (rowsOf m d) (colsOf m d) : Buf (Elt F) (oxLoc d)))
    p1 (outI (colsOf m d) (rowsOf m d) (colsOf m d) : Buf (Elt F) (ocLoc d))) p2 (outZ (F := F) (valsOf m d) (rowsOf m d) (colsOf m d) : Buf (Elt F) (ozLoc d))
def V3 (d : Dev nD) : Valuation τ sig (Elt F) := after opsB (V2 m d)

theorem unscoped_held (d : Dev nD) : (unscopedBufs d (fun b => m ((SparseCore.T d).loc b)) : sProp 𝕄) = held (T d) arrays (V0 m d) := by
  unfold unscopedBufs held arrays StableHlo.tcRefs
  rw [Finset.filter_map, BI.bigSep_map]
  congr 1

theorem held_call (d : Dev nD) (W : Valuation τ sig (Elt F)) :
    (held (T d) callArrays W : sProp 𝕄) = six d Finset.univ (W r1) (W r3) (W r4) (W p0) (W p1) (W p2) := by
  unfold held callArrays
  rw [SparseCore.bigSep_insert' (by decide), SparseCore.bigSep_insert' (by decide), SparseCore.bigSep_insert' (by decide),
    SparseCore.bigSep_insert' (by decide), SparseCore.bigSep_insert' (by decide), bigSep_singleton]

theorem held_V1 (d : Dev nD) : (held (T d) arrays (V1 m d) : sProp 𝕄)
    = iprop(six d Finset.univ (rowsOf m d) (colsOf m d) (valsOf m d) (V1 m d p0) (V1 m d p1) (V1 m d p2) ∗ held (T d) (arrays \ callArrays) (V1 m d)) := by
  rw [held_sub_split (T d) (show callArrays ⊆ arrays by decide), held_call]
  rfl

theorem held_V2 (d : Dev nD) : (held (T d) arrays (V2 m d) : sProp 𝕄)
    = iprop(six d Finset.univ (rowsOf m d) (colsOf m d) (valsOf m d) (outI (rowsOf m d) (rowsOf m d) (colsOf m d))
        (outI (colsOf m d) (rowsOf m d) (colsOf m d)) (outZ (F := F) (valsOf m d) (rowsOf m d) (colsOf m d)) ∗ held (T d) (arrays \ callArrays) (V1 m d)) := by
  have hne : ∀ b : DevRef τ sig, b ≠ p0 → b ≠ p1 → b ≠ p2 → V2 m d b = V1 m d b := fun b h0 h1 h2 => by
    unfold V2
    rw [Function.update_of_ne h2, Function.update_of_ne h1, Function.update_of_ne h0]
  rw [held_sub_split (T d) (show callArrays ⊆ arrays by decide), held_call,
    held_congr (T d) (S := arrays \ callArrays) (V' := V1 m d) fun b hb => hne b (fun h => by subst h; revert hb; decide)
      (fun h => by subst h; revert hb; decide) (fun h => by subst h; revert hb; decide),
    hne r1 (by decide) (by decide) (by decide), hne r3 (by decide) (by decide) (by decide), hne r4 (by decide) (by decide) (by decide)]
  unfold V2
  rw [Function.update_self, Function.update_of_ne (show p1 ≠ p2 by decide), Function.update_self,
    Function.update_of_ne (show p0 ≠ p2 by decide), Function.update_of_ne (show p0 ≠ p1 by decide), Function.update_self]
  rfl

/-! ## The arrays among the tasks -/

omit [FloatOps F] in
theorem pts_tasks {ℓ : Loc nD τ sig} (f : Buf (Elt F) ℓ) (R : ℕ → ℕ → Finset (Idx ℓ))
    (hd : ∀ c < 2, ∀ c' < 2, ∀ i i' : ℕ, ¬ (c = c' ∧ i = i') → Disjoint (R c i) (R c' i')) (hc : ∀ x, ∃ c < 2, ∃ i < 16, x ∈ R c i) :
    (ℓ ↦{fullShare} f : sProp 𝕄)
      = bigSep Finset.univ fun c : Fin 2 => bigSep Finset.univ fun i : Fin 16 => ℓ ↦[R c.val i.val]{fullShare} f := by
  rw [show (Finset.univ : Finset (Idx ℓ)) = Finset.univ.biUnion fun c : Fin 2 => Finset.univ.biUnion fun i : Fin 16 => R c.val i.val from ?_]
  · rw [pointsTo_biUnion]
    · refine bigSep_congr fun c _ => ?_
      rw [pointsTo_biUnion]
      intro i _ i' _ h
      exact hd _ c.isLt _ c.isLt _ _ fun h' => h (Fin.ext h'.2)
    · intro c _ c' _ h
      rw [Finset.disjoint_biUnion_left]
      intro i _
      rw [Finset.disjoint_biUnion_right]
      intro i' _
      exact hd _ c.isLt _ c'.isLt _ _ fun h' => h (Fin.ext h'.1)
  · symm
    rw [Finset.eq_univ_iff_forall]
    intro x
    obtain ⟨c, hc, i, hi, hx⟩ := hc x
    exact Finset.mem_biUnion.2 ⟨⟨c, hc⟩, Finset.mem_univ _, Finset.mem_biUnion.2 ⟨⟨i, hi⟩, Finset.mem_univ _, hx⟩⟩

theorem rowSet_disjoint : ∀ c < 2, ∀ c' < 2, ∀ i i' : ℕ, ¬ (c = c' ∧ i = i') → Disjoint (rowSet c i) (rowSet c' i') := by
  intro c hc c' hc' i i' h
  rw [Finset.disjoint_left]
  intro x hx hx'
  have := (Finset.mem_filter.1 hx).2
  have := (Finset.mem_filter.1 hx').2
  omega

theorem rowSet_cover : ∀ x, ∃ c < 2, ∃ i < 16, x ∈ rowSet c i := by
  intro x
  have := idx_lt (n := 320000) x
  exact ⟨(x 0).val / 20000 % 2, by omega, (x 0).val / 20000 / 2, by omega, Finset.mem_filter.2 ⟨Finset.mem_univ _, by omega⟩⟩

theorem six_tasks (d : Dev nD) (x : Buf (Elt F) (xLoc d)) (c : Buf (Elt F) (cLoc d)) (z : Buf (Elt F) (zLoc d))
    (ox : Buf (Elt F) (oxLoc d)) (oc : Buf (Elt F) (ocLoc d)) (oz : Buf (Elt F) (ozLoc d)) :
    (six d Finset.univ x c z ox oc oz : sProp 𝕄)
      = bigSep Finset.univ fun a : Fin 2 => bigSep Finset.univ fun i : Fin 16 => six d (rowSet a.val i.val) x c z ox oc oz := by
  unfold six
  simp only [bigSep_sep']
  rw [pts_tasks (ℓ := xLoc d) x rowSet rowSet_disjoint rowSet_cover, pts_tasks (ℓ := cLoc d) c rowSet rowSet_disjoint rowSet_cover,
    pts_tasks (ℓ := zLoc d) z rowSet rowSet_disjoint rowSet_cover, pts_tasks (ℓ := oxLoc d) ox rowSet rowSet_disjoint rowSet_cover,
    pts_tasks (ℓ := ocLoc d) oc rowSet rowSet_disjoint rowSet_cover, pts_tasks (ℓ := ozLoc d) oz rowSet rowSet_disjoint rowSet_cover]

/-! ## What the call's threads hand each other -/

abbrev tin (d : Dev nD) (c i : ℕ) : sProp 𝕄 :=
  taskIn (rowsOf m) (colsOf m) (valsOf m) (fun d => V1 m d p0) (fun d => V1 m d p1) (fun d => V1 m d p2) d c i
abbrev tout (d : Dev nD) (c i : ℕ) : sProp 𝕄 := taskOut (rowsOf m) (colsOf m) (valsOf m) d c i

def P : (K (F := F)).Pay (nD := nD) (Val := Elt F) (Name := ℕ) (U := UU) where
  st := fun q d c => match q with | 0 => bigSep Finset.univ fun i : Fin 16 => tin m d c.val i.val
  dn := fun q d c => match q with | 0 => bigSep Finset.univ fun i : Fin 16 => tout m d c.val i.val
  go := fun q d c i => match q with | 0 => tin m d c.val i.val
  td := fun q d c i => match q with | 0 => tout m d c.val i.val
  x := fun _ _ => iprop(emp)

instance P_storable : (P (F := F) m).IsStorable where
  st q d c := match q with
    | 0 => (inferInstance : BI.Storable (upEmb : UEmb _ 𝕄) (bigSep Finset.univ fun i : Fin 16 => tin m d c.val i.val))
  dn q d c := match q with
    | 0 => (inferInstance : BI.Storable (upEmb : UEmb _ 𝕄) (bigSep Finset.univ fun i : Fin 16 => tout m d c.val i.val))
  go q d c i := match q with
    | 0 => (inferInstance : BI.Storable (upEmb : UEmb _ 𝕄) (tin m d c.val i.val))
  td q d c i := match q with
    | 0 => (inferInstance : BI.Storable (upEmb : UEmb _ 𝕄) (tout m d c.val i.val))

theorem facts : (K (F := F)).Facts :=
  ⟨show sc_start ≠ sc_taskDone by decide, show (SemLoc.reg sc_start : SemLoc sig).isScoped .scScalar = false by decide,
   show (SemLoc.reg sc_taskDone : SemLoc sig).isScoped .scScalar = false by decide, show (SemLoc.reg sc_go : SemLoc sig).isScoped .scVector = false by decide,
   show (SemLoc.reg sc_done : SemLoc sig).isScoped .tc = false by decide,
   show ∀ (b : DevRef τ sig) (c : Fin τ.nSC), b.owner = .sc c → sig.taskShared b.table b.idx = false by decide, fun _ => rfl⟩

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_sort_body (coordsV c s) xV (Memref.isWhole_whole _) cV' (Memref.isWhole_whole _) zV (Memref.isWhole_whole _)
            oxV (Memref.isWhole_whole _) ocV (Memref.isWhole_whole _) ozV (Memref.isWhole_whole _)
            bV8 (Memref.isWhole_whole _) bV9 (Memref.isWhole_whole _) bV10 (Memref.isWhole_whole _)
            bV11 (Memref.isWhole_whole _) bV12 (Memref.isWhole_whole _) bV13 (Memref.isWhole_whole _)
            bV14 (Memref.isWhole_whole _) bV15 (Memref.isWhole_whole _)
            cc0_scoped0 cc0_scoped1 cc0_scoped2 cc0_scoped3 cc0_scoped4 cc0_scoped5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hpre : PreOK (rowsOf m) (colsOf m)) (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (rowsOf m) (colsOf m) (valsOf m) (fun d => V1 m d p0) (fun d => V1 m d p1) (fun d => V1 m d p2)
    hF hpre O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => tin m d c.val i.val) ⊢ |={Set.univ}=> iprop(
      (bigSep Finset.univ fun i : Fin ((K (F := F)).nSub 0) => (fun i : Fin 16 => tin m d c.val i.val) (Fin.cast nSub_zero i))
      ∗ ((bigSep Finset.univ fun i : Fin ((K (F := F)).nSub 0) => (fun i : Fin 16 => tout m d c.val i.val) (Fin.cast nSub_zero i))
          -∗ bigSep Finset.univ fun i : Fin 16 => tout m d c.val i.val))
  rw [bigSep_tasks (F := F) (fun i : Fin 16 => tin m d c.val i.val), bigSep_tasks (F := F) (fun i : Fin 16 => tout m d c.val i.val)]
  iintro H; imodintro
  isplitl [H]; · iexact H
  iintro H; iexact H

/-! ## The launch's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The TensorCore's run -/

theorem st0_eq (d : Dev nD) : (bigSep Finset.univ fun c : Fin ((K (F := F)).nCore 0) => (P m).st 0 d c)
    = six d Finset.univ (rowsOf m d) (colsOf m d) (valsOf m d) (V1 m d p0) (V1 m d p1) (V1 m d p2) := (six_tasks d _ _ _ _ _ _).symm
theorem dn0_eq (d : Dev nD) : (bigSep Finset.univ fun c : Fin ((K (F := F)).nCore 0) => (P m).dn 0 d c)
    = six d Finset.univ (rowsOf m d) (colsOf m d) (valsOf m d) (outI (rowsOf m d) (rowsOf m d) (colsOf m d))
        (outI (colsOf m d) (rowsOf m d) (colsOf m d)) (outZ (F := F) (valsOf m d) (rowsOf m d) (colsOf m d)) := (six_tasks d _ _ _ _ _ _).symm

/-- What the TensorCore ends with: its arrays, at their last contents. -/
abbrev FIN (d : Dev nD) : sProp 𝕄 := held (T d) arrays (V3 m d)

theorem opsA_sub : ∀ op ∈ opsA (F := F), op.bufs ⊆ arrays := by
  simp only [List.forall_mem_cons, List.not_mem_nil, false_implies, implies_true, and_true]
  refine ⟨?_, ?_, ?_, ?_, ?_, ?_⟩
  · show ({Proc.devRef .tc main_c} : Finset (DevRef τ sig)) ⊆ arrays; decide
  · show ({Proc.devRef .tc main_arg2, Proc.devRef .tc main_v0} : Finset (DevRef τ sig)) ⊆ arrays; decide
  · show ({Proc.devRef .tc main_v0, Proc.devRef .tc main_v1} : Finset (DevRef τ sig)) ⊆ arrays; decide
  · show ({Proc.devRef .tc main_arg2, Proc.devRef .tc main_v2} : Finset (DevRef τ sig)) ⊆ arrays; decide
  · show ({Proc.devRef .tc main_v2, Proc.devRef .tc main_v3} : Finset (DevRef τ sig)) ⊆ arrays; decide
  · show ({Proc.devRef .tc main_arg4, Proc.devRef .tc main_v4} : Finset (DevRef τ sig)) ⊆ arrays; decide

theorem opsB_sub : ∀ op ∈ opsB (F := F), op.bufs ⊆ arrays := by
  simp only [List.forall_mem_cons, List.not_mem_nil, false_implies, implies_true, and_true]
  refine ⟨?_, ?_, ?_⟩
  · show ({p0, Proc.devRef .tc main_v6} : Finset (DevRef τ sig)) ⊆ arrays; decide
  · show ({p1, Proc.devRef .tc main_v7} : Finset (DevRef τ sig)) ⊆ arrays; decide
  · show ({Proc.devRef .tc main_v6, Proc.devRef .tc main_v7, Proc.devRef .tc main_v8} : Finset (DevRef τ sig)) ⊆ arrays; decide

theorem opsA_fresh : ∀ op ∈ opsA (F := F), op.fresh = ∅ := by
  simp only [List.forall_mem_cons, List.not_mem_nil, false_implies, implies_true, and_true]
  exact ⟨rfl, rfl, rfl, rfl, rfl, rfl⟩

theorem opsB_fresh : ∀ op ∈ opsB (F := F), op.fresh = ∅ := by
  simp only [List.forall_mem_cons, List.not_mem_nil, false_implies, implies_true, and_true]
  exact ⟨rfl, rfl, rfl⟩

set_option maxRecDepth 16384 in
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, -⟩
  iapply (StableHlo.wp_seq 𝒱 none Set.univ d arrays _ opsA opsA_sub opsA_fresh (V0 m d)) $$ [Hb Hheld]
  · isplitl [Hb]; · iexact Hb
    iexact Hheld
  iintro ⟨Hb, Hheld⟩
  ihave Hh := (Entails.of_eq (show (held d.tc arrays (after opsA (V0 m d)) : sProp 𝕄) = _ from held_V1 m d)) $$ Hheld
  icases Hh with ⟨H6, Hrest⟩
  rw [wp_bind]
  iapply ((K (F := F)).wp_run (D (F := F)) 𝒱 (EH := EH) (P := P m) κ d 0) $$ [Hst H6 Hb Hrest Hts]
  isplitr; · iexact Hctx
  isplitl [Hst]; · iexact Hst
  isplitl [H6]
  · rw [st0_eq]; iexact H6
  iintro ⟨Hst, Hdn⟩
  ihave H6 := (Entails.of_eq (dn0_eq m d)) $$ Hdn
  ihave Hheld := (Entails.of_eq (held_V2 m d).symm) $$ [H6 Hrest]
  · isplitl [H6]; · iexact H6
    iexact Hrest
  iapply (StableHlo.wp_seq 𝒱 none Set.univ d arrays _ opsB opsB_sub opsB_fresh (V2 m d)) $$ [Hb Hheld]
  · isplitl [Hb]; · iexact Hb
    iexact Hheld
  iintro ⟨Hb, Hheld⟩
  rw [wp_pure]; imodintro
  isplitl [Hst]; · iexact Hst
  isplitl [Hheld]; · iexact Hheld
  isplitl [Hb] <;> iassumption

def fq (d : Dev nD) (s' : Phys nD τ sig (Elt F)) : Prop := ∀ b ∈ arrays, s'.mem.mem (d, b) = V3 m d b

theorem hfin (d : Dev nD) (s' : Phys nD τ sig (Elt F)) : iprop(FIN m d ∗ SI s') ⊢ (⌜fq m d s'⌝ : sProp 𝕄) := by
  have one : ∀ b : arrays, iprop(FIN m d ∗ SI s') ⊢ (⌜s'.mem.mem (d, b.1) = V3 m d b.1⌝ : sProp 𝕄) := by
    intro b
    unfold FIN held
    rw [SparseCore.bigSep_erase' b.2]
    iintro ⟨⟨Hb, -⟩, HSI⟩
    ihave H := (SI_pointsTo_agree (st := s') (ℓ := (d, b.1)) (I := Finset.univ) (q := fullShare) (f := V3 m d b.1)) $$ [HSI Hb]
    · isplitl [HSI] <;> iassumption
    icases H with %h1
    ipureintro; exact funext fun i => h1 i (Finset.mem_univ i)
  exact ((forall_intro one).trans pure_forall.2).trans (Laws.pure_mono fun all b hb => all ⟨b, hb⟩)

/-- What a run ends in: the TensorCore's arrays at their last contents, every semaphore at zero. -/
def QC : PUnit × MemSt nD τ sig (Elt F) → Prop := fun r => (∀ c : Dev nD, ∀ b ∈ arrays, r.2.mem (c, b) = V3 m c b) ∧ r.2.sem = fun _ => 0

/-- The program's run, over any floating-point values. -/
theorem run_main [∀ e, Nonempty (Elt F e)] (hpre : PreOK (rowsOf m) (colsOf m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hpre facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof
-- ==== Proof.Drawn.lean ====
/-
  What the precondition says of the arguments: graph `i` begins at node `625 i`, every graph has 20000 edges, and every
  end of an edge is a node of its graph.
-/
module

public import proofs.«01_k».proof.Pre_drawn_as_given
public import Idealize.ShloMosaic.Lib.ReduceAll
public import Idealize.ShloMosaic.Lib.StableHlo.Predicate

@[expose] public section

namespace Cert.Proof

open Idealize.ShloMosaic Cert.Pre_drawn_as_given

/-- The arguments as they are drawn. -/
structure Drawn (a1 : IVec S17 32) (a2 : IVec S320000x2 32) (a3 : IVec S16 32) : Prop where
  first : ∀ i : S17.Idx, a1 i = BitVec.ofNat 32 (625 * (i 0).val)
  count : ∀ i : S16.Idx, a3 i = 20000#32
  small : ∀ i : S320000x2.Idx, (a2 i).toNat < 625

theorem andi_eq (a b : BitVec 1) : IntOp.andi a b = 1#1 ↔ a = 1#1 ∧ b = 1#1 := by revert a b; decide

/-- A word that is at least 0 and below 625, both signed, is below 625. -/
theorem lt_of_sge_slt (v : BitVec 32) (h0 : IntOp.cmpi .sge v 0#32 = 1#1) (h1 : IntOp.cmpi .slt v 625#32 = 1#1) : v.toNat < 625 := by
  simp only [IntOp.cmpi, StableHlo.Predicate.ofBool_eq_one_iff, BitVec.sle_eq_decide, BitVec.slt_eq_decide, decide_eq_true_eq,
    BitVec.toInt_eq_toNat_cond, BitVec.toNat_ofNat, Nat.reducePow, Nat.reduceMod] at h0 h1
  omega

/-- The precondition, read. -/
theorem drawn_of_pre {F : FTy → Type} [FloatOps F] [Facts] {a0 : FVec F S10000x128 .f32} {a1 : IVec S17 32} {a2 : IVec S320000x2 32}
    {a3 : IVec S16 32} {a4 : FVec F S320000x1 .f32} (h : fn (F := F) a0 a1 a2 a3 a4 = fun _ => 1#1) : Drawn a1 a2 a3 := by
  have h0 := congrFun h (fun a => a.elim0)
  dsimp only [fn] at h0
  have : Subsingleton S_.Idx := ⟨fun x y => funext fun a => a.elim0⟩
  obtain ⟨h12, h3⟩ := (andi_eq _ _).1 h0
  obtain ⟨h1, h2⟩ := (andi_eq _ _).1 h12
  refine ⟨fun i => ?_, fun i => ?_, fun i => ?_⟩
  · have e := StableHlo.Predicate.cmpi_eq_iff.1 (Host.reduce_andi_all _ _ _ _ _ h1 i)
    rw [e, BitVec.ofNat_mul, BitVec.mul_comm]
    rfl
  · exact StableHlo.Predicate.cmpi_eq_iff.1 (Host.reduce_andi_all _ _ _ _ _ h2 i)
  · obtain ⟨e0, e1⟩ := (andi_eq _ _).1 (Host.reduce_andi_all _ _ _ _ _ h3 i)
    exact lt_of_sge_slt _ e0 e1

end Cert.Proof
-- ==== Proof.Ends.lean ====
/-
  The arrays at the end, in terms of the arguments: the arguments are as given, the third result is the constant, the
  second is the sorted values, and the first has the sorted rows and columns side by side.
-/
module

public import proofs.«01_k».proof.Proof.Launch
public import proofs.«01_k».proof.Proof.Drawn
public import Idealize.ShloMosaic.Lib.Routing.Ops

@[expose] public section

noncomputable section

namespace Cert.Proof

open Cert.KernelIdeal Cert.KernelIdeal.Gen

open Idealize.ShloMosaic Idealize.ShloMosaic.ValueIdx Idealize.SL.Sem
open Idealize.ShloMosaic.StableHlo (after)

variable {F : FTy → Type} [FloatOps F] (m : (ℓ : Loc nD τ sig) → Buf (Elt F) ℓ)

/-- The edges and the values, as given. -/
abbrev edges (d : Dev nD) : IVec S320000x2 32 := m ((d.tc : Thread nD τ).loc main_arg2)
abbrev weights (d : Dev nD) : FVec F S320000x1 .f32 := m ((d.tc : Thread nD τ).loc main_arg4)

theorem col_read {α : Type} (x : S320000x2.Idx → α) (o : Fin 2) (h : S320000x2.Slices ![0, o.val] S320000x1)
    (hc : S320000x1.ShapeCasts S320000) (j : Fin 320000) :
    shapeCast S320000 (extractStridedSlice S320000x1 ![0, o.val] x h) hc (ix1 j) = x (ix2 j o) := by
  rw [Routing.cast21 _ hc j (0 : Fin 1) j (by show j.val = j.val * 1 + 0; omega)]
  unfold extractStridedSlice
  refine congrArg x (funext fun a => Fin.ext ?_)
  match a with
  | ⟨0, _⟩ => exact Nat.zero_add _
  | ⟨1, _⟩ => rfl

theorem rowsOf_eq (d : Dev nD) (j : Fin 320000) : rowsOf m d (ix1 j) = edges m d (ix2 j 0) := by
  refine Eq.trans (congrFun (?_ : rowsOf m d = shapeCast S320000 (extractStridedSlice S320000x1 ![0, 0] (edges m d) slices_S320000x2_S320000x1_0_0) shapeCasts_S320000x1_S320000) _)
    (col_read (edges m d) 0 slices_S320000x2_S320000x1_0_0 shapeCasts_S320000x1_S320000 j)
  unfold rowsOf V1
  after_results_simp
  rfl

theorem colsOf_eq (d : Dev nD) (j : Fin 320000) : colsOf m d (ix1 j) = edges m d (ix2 j 1) := by
  refine Eq.trans (congrFun (?_ : colsOf m d = shapeCast S320000 (extractStridedSlice S320000x1 ![0, 1] (edges m d) slices_S320000x2_S320000x1_0_1) shapeCasts_S320000x1_S320000) _)
    (col_read (edges m d) 1 slices_S320000x2_S320000x1_0_1 shapeCasts_S320000x1_S320000 j)
  unfold colsOf V1
  after_results_simp
  rfl

theorem valsOf_eq (d : Dev nD) (j : Fin 320000) : valsOf m d (ix1 j) = weights m d (ix2 j 0) := by
  refine Eq.trans (congrFun (?_ : valsOf m d = shapeCast S320000 (weights m d) shapeCasts_S320000x1_S320000) _)
    (Routing.cast21 _ _ j (0 : Fin 1) j (by show j.val = j.val * 1 + 0; omega))
  unfold valsOf V1
  after_results_simp
  rfl

/-- The precondition, at the memory the launch starts from. -/
def DrawnAt : Prop := ∀ d : Dev nD, Drawn (m ((d.tc : Thread nD τ).loc main_arg1)) (m ((d.tc : Thread nD τ).loc main_arg2)) (m ((d.tc : Thread nD τ).loc main_arg3))

variable {m}

theorem preOK_of_drawn (h : DrawnAt m) : PreOK (rowsOf m) (colsOf m) := fun d j => by
  obtain ⟨k, rfl⟩ : ∃ k : Fin 320000, j = ix1 k := ⟨j 0, eq_ix1 j⟩
  exact ⟨lt_of_eq_of_lt (congrArg BitVec.toNat (rowsOf_eq m d k)) ((h d).small _),
    lt_of_eq_of_lt (congrArg BitVec.toNat (colsOf_eq m d k)) ((h d).small _)⟩

variable (m)

theorem V2_ne (d : Dev nD) (b : DevRef τ sig) (h0 : b ≠ p0) (h1 : b ≠ p1) (h2 : b ≠ p2) : V2 m d b = V1 m d b := by
  unfold V2
  rw [Function.update_of_ne h2, Function.update_of_ne h1, Function.update_of_ne h0]

theorem V3_arg (d : Dev nD) (b : Ref sig .tc) (hb : b ∈ [main_arg0, main_arg1, main_arg2, main_arg3, main_arg4]) :
    V3 m d (Proc.devRef .tc b) = m ((d.tc : Thread nD τ).loc b) := by
  simp only [List.mem_cons, List.not_mem_nil, or_false] at hb
  rcases hb with rfl | rfl | rfl | rfl | rfl <;>
    (unfold V3
     after_results_simp
     rw [V2_ne m d _ (by decide) (by decide) (by decide)]
     unfold V1
     after_results_simp
     rfl)

theorem V3_c (d : Dev nD) : V3 m d (Proc.devRef .tc main_c) = constantI S2 32 10000#32 := by
  unfold V3
  after_results_simp
  rw [V2_ne m d _ (by decide) (by decide) (by decide)]
  unfold V1
  after_results_simp

theorem V3_z (d : Dev nD) : V3 m d (Proc.devRef .tc main_v5_2) = outZ (F := F) (valsOf m d) (rowsOf m d) (colsOf m d) := by
  unfold V3
  after_results_simp
  unfold V2
  rw [Function.update_self]

theorem V3_i (d : Dev nD) : V3 m d (Proc.devRef .tc main_v8)
    = concatenate S320000x2 1 [⟨S320000x1, broadcastInDim S320000x1 ![0] bcast_S320000_S320000x1_0 (outI (rowsOf m d) (rowsOf m d) (colsOf m d))⟩,
        ⟨S320000x1, broadcastInDim S320000x1 ![0] bcast_S320000_S320000x1_0 (outI (colsOf m d) (rowsOf m d) (colsOf m d))⟩]
        concatenates_S320000x1_S320000x1_S320000x2_d1 := by
  have h6 : after (opsB.take 2) (V2 m d) (Proc.devRef .tc main_v6)
      = broadcastInDim S320000x1 ![0] bcast_S320000_S320000x1_0 (outI (rowsOf m d) (rowsOf m d) (colsOf m d)) := by
    simp only [opsB, List.take]
    after_results_simp
    unfold V2
    rw [Function.update_of_ne (show p0 ≠ p2 by decide), Function.update_of_ne (show p0 ≠ p1 by decide), Function.update_self]
  have h7 : after (opsB.take 2) (V2 m d) (Proc.devRef .tc main_v7)
      = broadcastInDim S320000x1 ![0] bcast_S320000_S320000x1_0 (outI (colsOf m d) (rowsOf m d) (colsOf m d)) := by
    simp only [opsB, List.take]
    after_results_simp
    unfold V2
    rw [Function.update_of_ne (show p1 ≠ p2 by decide), Function.update_self]
  rw [← h6, ← h7]
  unfold V3
  rw [show (opsB : List (HloOp τ sig (Elt F))) = opsB.take 2 ++ opsB.drop 2 from rfl, StableHlo.after_append]
  simp only [opsB, List.drop, StableHlo.after_cons, StableHlo.after_nil]
  exact StableHlo.binary_result' ..

end Cert.Proof

end
-- ==== Proof.Ref.lean ====
/-
  The reference's results, read at an index. Its shift of an edge is 625 times the edge's graph; its two stable sorts of
  all edges, whose keys are separated by graph, sort each graph's edges in place; so edge `j` of the result is the edge
  that the kernel's two sorts of a graph bring to place `j`.
-/
module

public import proofs.«01_k».proof.Proof.Gen.Reference.Run
public import proofs.«01_k».proof.Proof.Reads
public import proofs.«01_k».proof.Proof.Ends
public import Idealize.ShloMosaic.Lib.Routing.OpsOne
public import Idealize.ShloMosaic.Lib.Pointwise.SelectCore

@[expose] public section

noncomputable section

namespace Cert.Proof.Ref

open Cert.Reference Cert.Reference.Gen Cert.Reference.Value

open Idealize.ShloMosaic hiding ix0 ix1 ix2 eq_ix1 eq_ix2
open Idealize.ShloMosaic.ValueIdx Idealize.ShloMosaic.StableHlo Idealize.ShloMosaic.TcCoe Idealize.SL.Sem
open Idealize.ShloMosaic.Routing (shape0 shape1 shape2)

variable {F : FTy → Type} [FloatOps F] (V0 : Valuation τ sig (Elt F))

abbrev starts : IVec S17 32 := V0 (Proc.devRef .tc main_arg1)
abbrev ends : IVec S320000x2 32 := V0 (Proc.devRef .tc main_arg2)
abbrev lens : IVec S16 32 := V0 (Proc.devRef .tc main_arg3)
abbrev vals : FVec F S320000x1 .f32 := V0 (Proc.devRef .tc main_arg4)

/-! ## The graph of an edge -/

theorem sum_step (j : ℕ) : ((List.range (j + 1)).map fun i => if i = 0 then 0 else 20000).sum = 20000 * j := by
  induction j with
  | zero => rfl
  | succ j ih => rw [List.range_succ, List.map_append, List.sum_append, ih]; simp; omega

theorem sum_firsts (j : ℕ) : ((List.range (j + 1)).map fun e => if e % 20000 = 0 then 1 else 0).sum = j / 20000 + 1 := by
  induction j with
  | zero => rfl
  | succ j ih =>
    rw [List.range_succ, List.map_append, List.sum_append, ih]
    simp only [List.map_cons, List.map_nil, List.sum_cons, List.sum_nil]
    split <;> omega

theorem count_firsts (e : ℕ) (he : e < 320000) : Nat.count (fun i => 20000 * i = e) 16 = if e % 20000 = 0 then 1 else 0 := by
  split
  · next h =>
    obtain ⟨g, rfl⟩ : ∃ g, e = 20000 * g := ⟨e / 20000, by omega⟩
    have hg : g < 16 := by omega
    have : ∀ g : Fin 16, Nat.count (fun i => i = g.val) 16 = 1 := by decide
    rw [← this ⟨g, hg⟩]
    congr 1
    funext i
    exact propext (by show 20000 * i = 20000 * g ↔ i = g; omega)
  · next h =>
    rw [Nat.count_eq_card_filter_range, Finset.card_eq_zero, Finset.filter_eq_empty_iff]
    intro i _ hi
    omega

variable {V0}

/-- The first edge of graph `i` is edge `20000 i`. -/
theorem v4_eq (hD : Drawn (starts V0) (ends V0) (lens V0)) (i : Fin 16) : res_main_v4 V0 (ix1 i) = BitVec.ofNat 32 (20000 * i.val) := by
  unfold res_main_v4
  refine (Routing.cumsum1 (N := 16) (Nm1 := 15) rfl _ (fun i => if i = 0 then 0 else 20000) (fun e => ?_) _ rfl _ _ i).trans
    (congrArg (BitVec.ofNat 32) (sum_step i.val))
  refine (Routing.scatter_one (N := 16) scatter_S16_S1_S__n_0_0_0 rfl rfl _ _ _ 0 (by decide) rfl e).trans ?_
  by_cases h : e = 0
  · subst h; rfl
  · rw [if_neg h, if_neg (fun h' : e.val = 0 => h (Fin.ext h'))]
    refine concatenate_forall (P := fun v => v = 20000#32) S16 0 _ _ (fun p hp j => ?_) (ix1 e)
    simp only [List.mem_cons, List.not_mem_nil, or_false] at hp
    rcases hp with rfl | rfl
    · exact hD.count _
    · exact hD.count _

/-- Edge `e` belongs to graph `e / 20000`. -/
theorem v16_eq (hD : Drawn (starts V0) (ends V0) (lens V0)) (e : Fin 320000) : res_main_v16 V0 (ix1 e) = BitVec.ofNat 32 (e.val / 20000) := by
  unfold res_main_v16
  have h14 := Routing.cumsum1 (N := 320000) (Nm1 := 319999) rfl
    (Host.scatter scatter_S320000_S16x1_S16_n_0_0_1 IntOp.addi (broadcastInDim S320000 ![] bcast_S_S320000 (constantI S_ 32 0#32)) (broadcastInDim S16x1 ![0] bcast_S16_S16x1_0 (select (cmpi .slt (res_main_v4 V0) (broadcastInDim S16 ![] bcast_S_S16 (constantI S_ 32 0#32))) (addi (res_main_v4 V0) (broadcastInDim S16 ![] bcast_S_S16 (constantI S_ 32 320000#32))) (res_main_v4 V0))) (broadcastInDim S16 ![] bcast_S_S16 (constantI S_ 32 1#32)))
    (fun e => if e % 20000 = 0 then 1 else 0) (fun e => ?_) (broadcastInDim S_ ![] bcast_S_S_ (constantI S_ 32 0#32)) rfl reduceWindows_S320000_S320000_w320000s1p319999_0 h_S_ e
  · refine (congrArg (fun v => IntOp.subi v 1#32) h14).trans ?_
    rw [sum_firsts]
    exact StableHlo.Predicate.sub_one_ofNat _ (by omega) (by have := e.isLt; omega)
  · refine (marks (N := 320000) (M := 16) _ _ (fun _ => rfl) _ _ (fun _ => rfl) (fun i => 20000 * i) (fun i => ?_) (fun i hi => by omega) e).trans
      (congrArg (BitVec.ofNat 32) (count_firsts e.val e.isLt))
    exact wrapped (n := 16) _ _ (fun i => 20000 * i) (v4_eq hD) (fun i hi => by omega) _ _ i

/-- An end of an edge, raised by the first node of its graph. -/
theorem v20_eq (hD : Drawn (starts V0) (ends V0) (lens V0)) (e : Fin 320000) (o : Fin 2) :
    res_main_v20 V0 (ix2 e o) = ends V0 (ix2 e o) + BitVec.ofNat 32 (625 * (e.val / 20000)) := by
  unfold res_main_v20
  refine congrArg (fun v => ends V0 (ix2 e o) + v) ((Routing.bcRows (n := 320000) (m := 2) _ _ _ e o).trans ?_)
  have hw : ∀ j : Fin 320000, res_main_call3_v5 V0 (ix2 j 0) = BitVec.ofNat 32 (j.val / 20000) :=
    wrapped (n := 320000) _ _ (fun j => j / 20000) (v16_eq hD) (fun j hj => by omega) _ _
  refine (take_entries (N := 16) (n := 320000) gather_S16_S320000x1_S320000_n_0_n_n_0_1_1 rfl rfl rfl rfl _ _ _ (fun j => j / 20000) hw (by decide) (fun j hj => by omega)
    _ _ (fun _ => rfl) (fun _ => rfl) _ _ e).trans ?_
  refine (Routing.slice1 (m := 17) (n := 16) 0 _ _ ⟨e.val / 20000, by have := e.isLt; omega⟩ (by have := e.isLt; show 0 + e.val / 20000 < 17; omega)).trans ?_
  refine (hD.first _).trans (congrArg (fun k => BitVec.ofNat 32 (625 * k)) ?_)
  exact Nat.zero_add _

/-! ## The two sorts -/

variable (R C : IVec S320000 32)

/-- The node of an end of edge `e`, among all nodes. -/
def node (X : IVec S320000 32) (e : ℕ) : ℕ := 625 * (e / 20000) + (rd X e).toNat

/-- The edge that the first sort brings to place `p`, and the place that the second sort brings to place `q`. -/
def sort1 (p : ℕ) : ℕ := unrank 320000 (node C) p
def sort2 (q : ℕ) : ℕ := unrank 320000 (fun p => node R (sort1 C p)) q

theorem sort1_lt {p : ℕ} (hp : p < 320000) : sort1 C p < 320000 := unrank_lt _ hp
theorem sort2_lt {q : ℕ} (hq : q < 320000) : sort2 R C q < 320000 := unrank_lt _ hq

variable {R C}

theorem node_lt {X : IVec S320000 32} (hX : ∀ j, (X j).toNat < 625) {e : ℕ} (he : e < 320000) : node X e < 2 ^ 31 := by
  have := rd_lt X hX e
  unfold node
  omega

/-- The first sort sorts each graph's edges in place. -/
theorem sort1_eq (hC : ∀ j, (C j).toNat < 625) {g p : ℕ} (hg : g < 16) (hp : p < 20000) : sort1 C (20000 * g + p) = 20000 * g + unrank 20000 (key1 C g) p :=
  unrank_blocks (n := 20000) (m := 625) (G := 16) (by omega) (key := fun e => (rd C e).toNat) (fun e _ => rd_lt C hC e) (fun _ _ => rfl) hg hp

theorem sort1_graph (hC : ∀ j, (C j).toNat < 625) {p : ℕ} (hp : p < 320000) : sort1 C p / 20000 = p / 20000 := by
  have h := sort1_eq hC (g := p / 20000) (p := p % 20000) (by omega) (by omega)
  rw [Nat.div_add_mod] at h
  have := unrank_lt (n := 20000) (key1 C (p / 20000)) (p := p % 20000) (by omega)
  omega

/-- The two sorts bring to place `q` the edge that the kernel's two sorts of a graph bring there. -/
theorem sorts_eq (hR : ∀ j, (R j).toNat < 625) (hC : ∀ j, (C j).toNat < 625) {q : ℕ} (hq : q < 320000) : sort1 C (sort2 R C q) = perm' R C q := by
  have h2 : sort2 R C (20000 * (q / 20000) + q % 20000)
      = 20000 * (q / 20000) + unrank 20000 (fun x => (rd R (sort1 C (20000 * (q / 20000) + x))).toNat) (q % 20000) :=
    unrank_blocks (n := 20000) (m := 625) (G := 16) (by omega) (key := fun e => (rd R (sort1 C e)).toNat) (fun e _ => rd_lt R hR _)
      (fun e he => by
        show 625 * (sort1 C e / 20000) + _ = _
        rw [sort1_graph hC (by omega)]) (by omega) (by omega)
  rw [Nat.div_add_mod, unrank_congr (key' := key2 R C (q / 20000)) (by omega) fun x hx => by
    rw [sort1_eq hC (by omega) hx, key2]] at h2
  rw [h2, sort1_eq hC (by omega) (unrank_lt _ (by omega))]
  rfl

/-! ## The results -/

section

variable (hD : Drawn (starts V0) (ends V0) (lens V0)) (hR : ∀ j : Fin 320000, R (ix1 j) = ends V0 (ix2 j 0)) (hC : ∀ j : Fin 320000, C (ix1 j) = ends V0 (ix2 j 1))

include hD hR hC

theorem rows_small (j : S320000.Idx) : (R j).toNat < 625 := by
  obtain ⟨k, rfl⟩ : ∃ k : Fin 320000, j = ix1 k := ⟨j 0, eq_ix1 j⟩
  rw [hR]; exact hD.small _

theorem cols_small (j : S320000.Idx) : (C j).toNat < 625 := by
  obtain ⟨k, rfl⟩ : ∃ k : Fin 320000, j = ix1 k := ⟨j 0, eq_ix1 j⟩
  rw [hC]; exact hD.small _

theorem node_word (X : IVec S320000 32) (o : Fin 2) (hX : ∀ j : Fin 320000, X (ix1 j) = ends V0 (ix2 j o)) (e : Fin 320000) :
    res_main_v20 V0 (ix2 e o) = BitVec.ofNat 32 (node X e.val) := by
  rw [v20_eq hD, ← hX, node, Nat.add_comm, BitVec.ofNat_add, show rd X e.val = X (ix1 e) from rd_at X (ix1 e), ofNat_word]

theorem v23_eq (j : Fin 320000) : res_main_v23 V0 (ix1 j) = BitVec.ofNat 32 (sort1 C j.val) := by
  unfold res_main_v23
  refine argsort_read (n := 320000) _ (node C) (fun e => ?_) (fun e he => node_lt (cols_small hD hR hC) he) _ (fun _ _ => rfl) j
  unfold res_main_v22
  exact (col_read _ 1 _ _ e).trans (node_word hD hR hC C 1 hC e)

theorem v24_eq (j : Fin 320000) (o : Fin 2) : res_main_v24 V0 (ix2 j o) = res_main_v20 V0 (ix2 ⟨sort1 C j.val, sort1_lt C j.isLt⟩ o) := by
  unfold res_main_v24
  exact take_rows (n := 320000) (C := 2) _ rfl rfl rfl rfl rfl _ _ _ (sort1 C)
    (wrapped (n := 320000) _ _ (sort1 C) (v23_eq hD hR hC) (fun j hj => (sort1_lt C hj).trans (by decide)) _ _) (by decide) (fun j hj => sort1_lt C hj) _ _ (fun _ => rfl) (fun _ => rfl) _ _ _ j o

theorem v28_eq (j : Fin 320000) : res_main_v28 V0 (ix1 j) = BitVec.ofNat 32 (sort2 R C j.val) := by
  unfold res_main_v28
  refine argsort_read (n := 320000) _ (fun p => node R (sort1 C p)) (fun e => ?_) (fun e he => node_lt (rows_small hD hR hC) (sort1_lt C he)) _ (fun _ _ => rfl) j
  unfold res_main_v27
  exact (col_read _ 0 _ _ e).trans ((v24_eq hD hR hC e 0).trans (node_word hD hR hC R 0 hR _))

theorem col_word (X : IVec S320000 32) (o : Fin 2) (hX : ∀ j : Fin 320000, X (ix1 j) = ends V0 (ix2 j o)) (j : Fin 320000) :
    res_main_v20 V0 (ix2 ⟨sort1 C (sort2 R C j.val), sort1_lt C (sort2_lt R C j.isLt)⟩ o) = outI X R C (ix1 j) := by
  have e := sorts_eq (rows_small hD hR hC) (cols_small hD hR hC) j.isLt
  have hlt : unrank 20000 (key1 C (j.val / 20000)) (unrank 20000 (key2 R C (j.val / 20000)) (j.val % 20000)) < 20000 :=
    unrank_lt _ (unrank_lt _ (by omega))
  have hg : sort1 C (sort2 R C j.val) / 20000 = j.val / 20000 := by
    rw [e, perm', perm]; omega
  rw [v20_eq hD, ← hX]
  show X (ix1 _) + BitVec.ofNat 32 (625 * (sort1 C (sort2 R C j.val) / 20000)) = rd X (perm' R C j.val) + BitVec.ofNat 32 (625 * (j.val / 20000))
  rw [hg, ← e]
  exact congrArg (· + BitVec.ofNat 32 (625 * (j.val / 20000))) (rd_at X (ix1 ⟨_, sort1_lt C (sort2_lt R C j.isLt)⟩)).symm

/-- The first result: the two columns of the shifted edges, in the order of the two sorts. -/
theorem v29_eq (X : IVec S320000 32) (o : Fin 2) (hX : ∀ j : Fin 320000, X (ix1 j) = ends V0 (ix2 j o)) (j : Fin 320000) :
    select (broadcastInDim S320000x2 ![0] bcast_S320000_S320000x2_0 (Host.reduce IntOp.andi (andi (cmpi .sge (res_main_call8_v5 V0) (broadcastInDim S320000x1 ![] bcast_S_S320000x1 (constantI S_ 32 0#32))) (cmpi .sle (res_main_call8_v5 V0) (broadcastInDim S320000x1 ![0, 1] bcast_S1x1_S320000x1_0_1 (broadcastInDim S1x1 ![1] bcast_S1_S1x1_1 (constantI S1 32 319999#32))))) (constantI S_ 1 1#1) reducesTo_S320000x1_S320000_d1 h_S_)) (Host.gather gather_S320000x2_S320000x1_S320000x2_1_0_n_n_0_1_12 (res_main_v24 V0) (res_main_call8_v5 V0)) (broadcastInDim S320000x2 ![] bcast_S_S320000x2 (constantI S_ 32 2147483648#32)) (ix2 j o)
      = outI X R C (ix1 j) :=
  (take_rows (n := 320000) (C := 2) _ rfl rfl rfl rfl rfl _ _ _ (sort2 R C)
    (wrapped (n := 320000) _ _ (sort2 R C) (v28_eq hD hR hC) (fun j hj => (sort2_lt R C hj).trans (by decide)) _ _) (by decide) (fun j hj => sort2_lt R C hj) _ _ (fun _ => rfl) (fun _ => rfl) _ _ _ j o).trans
    ((v24_eq hD hR hC _ o).trans (col_word hD hR hC X o hX j))

/-- The second result: the values in the order of the two sorts. -/
theorem v31_eq (Z : FVec F S320000 .f32) (hZ : ∀ j : Fin 320000, Z (ix1 j) = vals V0 (ix2 j 0)) (j : Fin 320000) :
    shapeCast S320000 (select (broadcastInDim S320000x1 ![0] bcast_S320000_S320000x1_0 (Host.reduce IntOp.andi (andi (cmpi .sge (res_main_call9_v5 V0) (broadcastInDim S320000x1 ![] bcast_S_S320000x1 (constantI S_ 32 0#32))) (cmpi .sle (res_main_call9_v5 V0) (broadcastInDim S320000x1 ![0, 1] bcast_S1x1_S320000x1_0_1 (broadcastInDim S1x1 ![1] bcast_S1_S1x1_1 (constantI S1 32 319999#32))))) (constantI S_ 1 1#1) reducesTo_S320000x1_S320000_d1 h_S_)) (Host.gather gather_S320000x1_S320000x1_S320000x1_1_0_n_n_0_1_11 (select (broadcastInDim S320000x1 ![0] bcast_S320000_S320000x1_0 (Host.reduce IntOp.andi (andi (cmpi .sge (res_main_call6_v5 V0) (broadcastInDim S320000x1 ![] bcast_S_S320000x1 (constantI S_ 32 0#32))) (cmpi .sle (res_main_call6_v5 V0) (broadcastInDim S320000x1 ![0, 1] bcast_S1x1_S320000x1_0_1 (broadcastInDim S1x1 ![1] bcast_S1_S1x1_1 (constantI S1 32 319999#32))))) (constantI S_ 1 1#1) reducesTo_S320000x1_S320000_d1 h_S_)) (Host.gather gather_S320000x1_S320000x1_S320000x1_1_0_n_n_0_1_11 (V0 (Proc.devRef .tc main_arg4)) (res_main_call6_v5 V0)) (broadcastInDim S320000x1 ![] bcast_S_S320000x1 (constant S_ .f32 0x7FC00000#32))) (res_main_call9_v5 V0)) (broadcastInDim S320000x1 ![] bcast_S_S320000x1 (constant S_ .f32 0x7FC00000#32))) shapeCasts_S320000x1_S320000 (ix1 j)
      = outZ Z R C (ix1 j) := by
  refine (Routing.cast21 (a := 320000) (b := 1) (n := 320000) _ _ j (0 : Fin 1) j (by show j.val = j.val * 1 + 0; omega)).trans ?_
  refine (take_rows (n := 320000) (C := 1) _ rfl rfl rfl rfl rfl _ _ _ (sort2 R C)
    (wrapped (n := 320000) _ _ (sort2 R C) (v28_eq hD hR hC) (fun j hj => (sort2_lt R C hj).trans (by decide)) _ _) (by decide) (fun j hj => sort2_lt R C hj) _ _ (fun _ => rfl) (fun _ => rfl) _ _ _ j 0).trans ?_
  refine (take_rows (n := 320000) (C := 1) _ rfl rfl rfl rfl rfl _ _ _ (sort1 C)
    (wrapped (n := 320000) _ _ (sort1 C) (v23_eq hD hR hC) (fun j hj => (sort1_lt C hj).trans (by decide)) _ _) (by decide) (fun j hj => sort1_lt C hj) _ _ (fun _ => rfl) (fun _ => rfl) _ _ _ _ 0).trans ?_
  refine (hZ _).symm.trans ((rd_at Z (ix1 ⟨_, sort1_lt C (sort2_lt R C j.isLt)⟩)).symm.trans ?_)
  exact congrArg (rd Z) (sorts_eq (rows_small hD hR hC) (cols_small hD hR hC) j.isLt)

end

end Cert.Proof.Ref
-- ==== Proof.Match.lean ====
/-
  The kernel's results are the reference's: both programs' runs, from memories that hold the same arguments, end with the
  same three arrays.
-/
module

public import proofs.«01_k».proof.Proof.Ref
public import Idealize.ShloMosaic.Lib.Pipeline.Value

@[expose] public section

noncomputable section

namespace Cert.Proof

open Cert.KernelIdeal Cert.KernelIdeal.Gen

open Idealize.ShloMosaic hiding ix0 ix1 ix2 eq_ix1 eq_ix2
open Idealize.ShloMosaic.ValueIdx Idealize.ShloMosaic.StableHlo Idealize.SL.Sem

variable {F : FTy → Type} [FloatOps F]

/-! ## The kernel's run, at its results and arguments -/

/-- The kernel's three results. -/
def res0 (m : (ℓ : Loc nD τ sig) → Buf (Elt F) ℓ) (c : Dev nD) : Buf (Elt F) ((c.tc : Thread nD τ).loc main_v8) := V3 m c (Proc.devRef .tc main_v8)
def res1 (m : (ℓ : Loc nD τ sig) → Buf (Elt F) ℓ) (c : Dev nD) : Buf (Elt F) ((c.tc : Thread nD τ).loc main_v5_2) := V3 m c (Proc.devRef .tc main_v5_2)
def res2 (m : (ℓ : Loc nD τ sig) → Buf (Elt F) ℓ) (c : Dev nD) : Buf (Elt F) ((c.tc : Thread nD τ).loc main_c) := V3 m c (Proc.devRef .tc main_c)

/-- What the kernel's run leaves: the results, the arguments as they were, and every semaphore at zero. -/
theorem kernel_run [∀ e, Nonempty (Elt F e)] (m : (ℓ : Loc nD τ sig) → Buf (Elt F) ℓ) (ρ : Dev nD → PrngReg) (h : DrawnAt m) :
    θ_run (Cert.KernelIdeal.defs (F := F)) (Cert.KernelIdeal.threads (F := F)) ⟨m, fun _ => 0, ρ⟩ fun r =>
      (∀ c : Dev nD, r.2.mem ((c.tc : Thread nD τ).loc main_v8) = res0 m c
        ∧ r.2.mem ((c.tc : Thread nD τ).loc main_v5_2) = res1 m c
        ∧ r.2.mem ((c.tc : Thread nD τ).loc main_c) = res2 m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0 :=
  (θ_run _ _ _).mono (fun r q => ⟨fun c =>
    have at' (b : Ref sig .tc) (hb : (Proc.devRef .tc b : DevRef τ sig) ∈ arrays) : r.2.mem ((c.tc : Thread nD τ).loc b) = V3 m c (Proc.devRef .tc b) := q.1 c _ hb
    ⟨at' main_v8 (by decide), at' main_v5_2 (by decide), at' main_c (by decide), (at' main_arg0 (by decide)).trans (V3_arg m c main_arg0 (by decide)),
      (at' main_arg1 (by decide)).trans (V3_arg m c main_arg1 (by decide)), (at' main_arg2 (by decide)).trans (V3_arg m c main_arg2 (by decide)),
      (at' main_arg3 (by decide)).trans (V3_arg m c main_arg3 (by decide)), (at' main_arg4 (by decide)).trans (V3_arg m c main_arg4 (by decide))⟩, q.2⟩)
    (run_main m ρ (preOK_of_drawn h))

/-! ## The first result, read at an index -/

theorem res0_row (m : (ℓ : Loc nD τ sig) → Buf (Elt F) ℓ) (c : Dev nD) (j : Fin 320000) :
    (res0 m c : IVec S320000x2 32) (ix2 j 0) = outI (rowsOf m c) (rowsOf m c) (colsOf m c) (ix1 j) := by
  refine (congrFun (V3_i m c) _).trans ((concatenate_pair_apply_left (s₁ := S320000x1) (t := S320000x2) 1 _ _ _ _ rfl (ix2 j 0) fun b => ?_).trans
    (Routing.bcCol (n := 320000) _ _ j))
  match b with
  | ⟨0, _⟩ => rfl
  | ⟨1, _⟩ => rfl

theorem res0_col (m : (ℓ : Loc nD τ sig) → Buf (Elt F) ℓ) (c : Dev nD) (j : Fin 320000) :
    (res0 m c : IVec S320000x2 32) (ix2 j 1) = outI (colsOf m c) (rowsOf m c) (colsOf m c) (ix1 j) := by
  refine (congrFun (V3_i m c) _).trans ((concatenate_pair_apply_right (s₁ := S320000x1) (s₂ := S320000x1) (t := S320000x2) 1 _ _ _ _ rfl rfl (ix2 j 0) (fun b hb => ?_) rfl).trans
    (Routing.bcCol (n := 320000) _ _ j))
  match b with
  | ⟨0, _⟩ => rfl
  | ⟨1, _⟩ => exact absurd rfl hb

/-! ## The reference's run ends with the kernel's results -/

theorem reference_run (m : (ℓ : Loc nD τ sig) → Buf (Elt F) ℓ) (h : DrawnAt m)
    (m' : (ℓ : Loc Cert.Reference.nD Cert.Reference.τ Cert.Reference.sig) → Buf (Elt F) ℓ) (ρ : Dev Cert.Reference.nD → PrngReg)
    (e1 : ∀ c : Dev nD, m' ((c.tc : Thread Cert.Reference.nD Cert.Reference.τ).loc Cert.Reference.main_arg1) = m ((c.tc : Thread nD τ).loc main_arg1))
    (e2 : ∀ c : Dev nD, m' ((c.tc : Thread Cert.Reference.nD Cert.Reference.τ).loc Cert.Reference.main_arg2) = m ((c.tc : Thread nD τ).loc main_arg2))
    (e3 : ∀ c : Dev nD, m' ((c.tc : Thread Cert.Reference.nD Cert.Reference.τ).loc Cert.Reference.main_arg3) = m ((c.tc : Thread nD τ).loc main_arg3))
    (e4 : ∀ c : Dev nD, m' ((c.tc : Thread Cert.Reference.nD Cert.Reference.τ).loc Cert.Reference.main_arg4) = m ((c.tc : Thread nD τ).loc main_arg4)) :
    θ_run (Cert.Reference.defs (F := F)) (onTc (τ := Cert.Reference.τ) (Cert.Reference.main (F := F))) ⟨m', fun _ => 0, ρ⟩ fun r =>
      ∀ c : Dev Cert.Reference.nD, r.2.mem ((c.tc : Thread Cert.Reference.nD Cert.Reference.τ).loc Cert.Reference.main_v29) = res0 m c
        ∧ r.2.mem ((c.tc : Thread Cert.Reference.nD Cert.Reference.τ).loc Cert.Reference.main_v31) = res1 m c
        ∧ r.2.mem ((c.tc : Thread Cert.Reference.nD Cert.Reference.τ).loc Cert.Reference.main_c) = res2 m c
        ∧ r.2.mem ((c.tc : Thread Cert.Reference.nD Cert.Reference.τ).loc Cert.Reference.main_arg0) = m' ((c.tc : Thread Cert.Reference.nD Cert.Reference.τ).loc Cert.Reference.main_arg0)
        ∧ r.2.mem ((c.tc : Thread Cert.Reference.nD Cert.Reference.τ).loc Cert.Reference.main_arg1) = m' ((c.tc : Thread Cert.Reference.nD Cert.Reference.τ).loc Cert.Reference.main_arg1)
        ∧ r.2.mem ((c.tc : Thread Cert.Reference.nD Cert.Reference.τ).loc Cert.Reference.main_arg2) = m' ((c.tc : Thread Cert.Reference.nD Cert.Reference.τ).loc Cert.Reference.main_arg2)
        ∧ r.2.mem ((c.tc : Thread Cert.Reference.nD Cert.Reference.τ).loc Cert.Reference.main_arg3) = m' ((c.tc : Thread Cert.Reference.nD Cert.Reference.τ).loc Cert.Reference.main_arg3)
        ∧ r.2.mem ((c.tc : Thread Cert.Reference.nD Cert.Reference.τ).loc Cert.Reference.main_arg4) = m' ((c.tc : Thread Cert.Reference.nD Cert.Reference.τ).loc Cert.Reference.main_arg4) := by
  refine (θ_run _ _ _).mono (fun r q c => ⟨(q c).1.trans ?_, (q c).2.1.trans ?_, (q c).2.2.1.trans (V3_c m c).symm, (q c).2.2.2⟩) (Cert.Reference.Value.run (F := F) m' ρ)
  all_goals
    have hD : Drawn (Ref.starts (launchContents m' c)) (Ref.ends (launchContents m' c)) (Ref.lens (launchContents m' c)) := by
      refine Eq.mp ?_ (h c)
      rw [← e1 c, ← e2 c, ← e3 c]
    have hR : ∀ j : Fin 320000, rowsOf m c (ix1 j) = Ref.ends (launchContents m' c) (ix2 j 0) := fun j => (rowsOf_eq m c j).trans (congrFun (e2 c) _).symm
    have hC : ∀ j : Fin 320000, colsOf m c (ix1 j) = Ref.ends (launchContents m' c) (ix2 j 1) := fun j => (colsOf_eq m c j).trans (congrFun (e2 c) _).symm
  · refine funext fun (i : S320000x2.Idx) => ?_
    obtain ⟨j, o, rfl⟩ : ∃ (j : Fin 320000) (o : Fin 2), i = ix2 j o := ⟨i 0, i 1, eq_ix2 i⟩
    match o with
    | ⟨0, _⟩ => exact (Ref.v29_eq hD hR hC _ 0 hR j).trans (res0_row m c j).symm
    | ⟨1, _⟩ => exact (Ref.v29_eq hD hR hC _ 1 hC j).trans (res0_col m c j).symm
  · refine funext fun (i : S320000.Idx) => ?_
    obtain ⟨j, rfl⟩ : ∃ j : Fin 320000, i = ix1 j := ⟨i 0, eq_ix1 i⟩
    exact (Ref.v31_eq hD hR hC (valsOf m c) (fun j => (valsOf_eq m c j).trans (congrFun (e4 c) _).symm) j).trans (congrFun (V3_z m c) _).symm

end Cert.Proof

end
-- ==== Proof.lean ====
/-
  The claims. Both frames of the kernel, its bit-exact claim and its algebraic claim are read off one run, which is proved
  over any float values (Proof/Launch.lean, Proof/Match.lean); the reference's results are read in Proof/Ref.lean.
-/
module

public import proofs.«01_k».proof.Defs
public import proofs.«01_k».proof.Proof.Gen.Kernel
public import proofs.«01_k».proof.Proof.Gen.KernelIdeal
public import proofs.«01_k».proof.Proof.Gen.Reference
public import proofs.«01_k».proof.Proof.Gen.ReferenceIdeal
public import proofs.«01_k».proof.Proof.Gen.Pre_drawn_as_given
public import proofs.«01_k».proof.Proof.Gen.Reference.Run
public import proofs.«01_k».proof.Proof.Gen.ReferenceIdeal.Run
public import proofs.«01_k».proof.Proof.Match
public import Idealize.ShloMosaic.Lib.Quiescent

@[expose] public section

noncomputable section

namespace Cert.Proof

open Idealize.ShloMosaic Idealize.SL.Sem

/-- The kernel ends with its arguments as they were and its semaphores at zero, at bits. -/
theorem frame_kernel : Cert.quiescent_Kernel := fun m ρ h =>
  (θ_run Cert.Kernel.defs _ _).mono (fun _ q => ⟨fun c => (q.1 c).2.2.2, q.2⟩) (kernel_run (F := Bits) m ρ fun d => drawn_of_pre (h d))

/-- The same at exact values. -/
theorem frame_kernelIdeal : Cert.quiescent_KernelIdeal := fun m ρ h =>
  (θ_run Cert.KernelIdeal.defs _ _).mono (fun _ q => ⟨fun c => (q.1 c).2.2.2, q.2⟩) (kernel_run (F := Ideal) m ρ fun d => drawn_of_pre (h d))

/-- The reference ends with its arguments as they were; it declares no semaphore. -/
theorem frame_reference : Cert.quiescent_Reference := fun m ρ _ =>
  (θ_run Cert.Reference.defs _ _).mono (fun r q => ⟨fun c => (q c).2.2.2, sem_eq_zero_of_no_sems (by decide) r.2⟩) (Cert.Reference.Value.run (F := Bits) m ρ)

/-- The same at exact values. -/
theorem frame_referenceIdeal : Cert.quiescent_ReferenceIdeal := fun m ρ _ =>
  (θ_run Cert.ReferenceIdeal.defs _ _).mono (fun r q => ⟨fun c => (q c).2.2.2, sem_eq_zero_of_no_sems (by decide) r.2⟩) (Cert.ReferenceIdeal.Value.run (F := Ideal) m ρ)

/-- At bits, the kernel's three results are the reference's. -/
theorem bitexact : Cert.bitexact_Kernel_Reference := fun m ρ m' ρ' h e =>
  have hD : DrawnAt (F := Bits) m := fun d => drawn_of_pre (h d)
  ⟨res0 (F := Bits) m, res1 (F := Bits) m, res2 (F := Bits) m,
    (θ_run Cert.Kernel.defs _ _).mono (fun _ q => q.1) (kernel_run (F := Bits) m ρ hD),
    reference_run (F := Bits) m hD m' ρ' (fun c => (e c).2.1) (fun c => (e c).2.2.1) (fun c => (e c).2.2.2.1) (fun c => (e c).2.2.2.2)⟩

/-- At exact values, the kernel's three results are the reference's. -/
theorem algebraic : Cert.algebraic_KernelIdeal_ReferenceIdeal := fun m ρ m' ρ' h e =>
  have hD : DrawnAt (F := Ideal) m := fun d => drawn_of_pre (h d)
  ⟨res0 (F := Ideal) m, res1 (F := Ideal) m, res2 (F := Ideal) m,
    (θ_run Cert.KernelIdeal.defs _ _).mono (fun _ q => q.1) (kernel_run (F := Ideal) m ρ hD),
    reference_run (F := Ideal) m hD m' ρ' (fun c => (e c).2.1) (fun c => (e c).2.2.1) (fun c => (e c).2.2.2.1) (fun c => (e c).2.2.2.2)⟩

/-- Every claim. -/
theorem claim : Cert.Claim := ⟨Cert.Kernel.Gen.facts, Cert.KernelIdeal.Gen.facts, Cert.Reference.Gen.facts, Cert.ReferenceIdeal.Gen.facts, Cert.Pre_drawn_as_given.Gen.facts,
  frame_kernel, frame_kernelIdeal, frame_reference, fun m ρ _ => frame_reference m ρ trivial, frame_referenceIdeal, fun m ρ _ => frame_referenceIdeal m ρ trivial,
  trivial, bitexact, algebraic⟩

end Cert.Proof

end
